-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_ProjAb (m : (ℓ : Loc Cert.ProjAb.nD Cert.ProjAb.τ Cert.ProjAb.sig) → Buf (Elt Bits) ℓ) : Prop :=
  True

def Pre_ProjAbIdeal (m : (ℓ : Loc Cert.ProjAbIdeal.nD Cert.ProjAbIdeal.τ Cert.ProjAbIdeal.sig) → Buf (Elt Ideal) ℓ) : Prop :=
  True

def Pre_ProjAbRefIdeal (m : (ℓ : Loc Cert.ProjAbRefIdeal.nD Cert.ProjAbRefIdeal.τ Cert.ProjAbRefIdeal.sig) → Buf (Elt Ideal) ℓ) : Prop :=
  True

def Pre_ProjCd (m : (ℓ : Loc Cert.ProjCd.nD Cert.ProjCd.τ Cert.ProjCd.sig) → Buf (Elt Bits) ℓ) : Prop :=
  True

def Pre_ProjCdIdeal (m : (ℓ : Loc Cert.ProjCdIdeal.nD Cert.ProjCdIdeal.τ Cert.ProjCdIdeal.sig) → Buf (Elt Ideal) ℓ) : Prop :=
  True

def Pre_ProjCdRefIdeal (m : (ℓ : Loc Cert.ProjCdRefIdeal.nD Cert.ProjCdRefIdeal.τ Cert.ProjCdRefIdeal.sig) → Buf (Elt Ideal) ℓ) : Prop :=
  True

def Pre_LastNorm (m : (ℓ : Loc Cert.LastNorm.nD Cert.LastNorm.τ Cert.LastNorm.sig) → Buf (Elt Bits) ℓ) : Prop :=
  True

def Pre_LastNormIdeal (m : (ℓ : Loc Cert.LastNormIdeal.nD Cert.LastNormIdeal.τ Cert.LastNormIdeal.sig) → Buf (Elt Ideal) ℓ) : Prop :=
  True

def Pre_LastNormRefIdeal (m : (ℓ : Loc Cert.LastNormRefIdeal.nD Cert.LastNormRefIdeal.τ Cert.LastNormRefIdeal.sig) → Buf (Elt Ideal) ℓ) : Prop :=
  True

def Pre_NextNorm (m : (ℓ : Loc Cert.NextNorm.nD Cert.NextNorm.τ Cert.NextNorm.sig) → Buf (Elt Bits) ℓ) : Prop :=
  True

def Pre_NextNormIdeal (m : (ℓ : Loc Cert.NextNormIdeal.nD Cert.NextNormIdeal.τ Cert.NextNormIdeal.sig) → Buf (Elt Ideal) ℓ) : Prop :=
  True

def Pre_NextNormRefIdeal (m : (ℓ : Loc Cert.NextNormRefIdeal.nD Cert.NextNormRefIdeal.τ Cert.NextNormRefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_ProjAb [hProjAb : Cert.ProjAb.Facts] : Prop :=
  ∀ (m : (ℓ : Loc Cert.ProjAb.nD Cert.ProjAb.τ Cert.ProjAb.sig) → Buf (Elt Bits) ℓ) (g : Dev Cert.ProjAb.nD → PrngReg), Pre_ProjAb m →
    θ_run (Cert.ProjAb.defs (F := Bits)) (onTc (τ := Cert.ProjAb.τ) (Cert.ProjAb.main (F := Bits))) ⟨m, fun _ => 0, g⟩ (fun r => (∀ c : Dev Cert.ProjAb.nD,
      r.2.mem ((c.tc : Thread Cert.ProjAb.nD Cert.ProjAb.τ).loc Cert.ProjAb.main_arg0) = m ((c.tc : Thread Cert.ProjAb.nD Cert.ProjAb.τ).loc Cert.ProjAb.main_arg0)
      ∧ r.2.mem ((c.tc : Thread Cert.ProjAb.nD Cert.ProjAb.τ).loc Cert.ProjAb.main_arg1) = m ((c.tc : Thread Cert.ProjAb.nD Cert.ProjAb.τ).loc Cert.ProjAb.main_arg1))
      ∧ r.2.sem = fun _ => 0)

def quiescent_ProjAbIdeal [hProjAbIdeal : Cert.ProjAbIdeal.Facts] : Prop :=
  ∀ (m : (ℓ : Loc Cert.ProjAbIdeal.nD Cert.ProjAbIdeal.τ Cert.ProjAbIdeal.sig) → Buf (Elt Ideal) ℓ) (g : Dev Cert.ProjAbIdeal.nD → PrngReg), Pre_ProjAbIdeal m →
    θ_run (Cert.ProjAbIdeal.defs (F := Ideal)) (onTc (τ := Cert.ProjAbIdeal.τ) (Cert.ProjAbIdeal.main (F := Ideal))) ⟨m, fun _ => 0, g⟩ (fun r => (∀ c : Dev Cert.ProjAbIdeal.nD,
      r.2.mem ((c.tc : Thread Cert.ProjAbIdeal.nD Cert.ProjAbIdeal.τ).loc Cert.ProjAbIdeal.main_arg0) = m ((c.tc : Thread Cert.ProjAbIdeal.nD Cert.ProjAbIdeal.τ).loc Cert.ProjAbIdeal.main_arg0)
      ∧ r.2.mem ((c.tc : Thread Cert.ProjAbIdeal.nD Cert.ProjAbIdeal.τ).loc Cert.ProjAbIdeal.main_arg1) = m ((c.tc : Thread Cert.ProjAbIdeal.nD Cert.ProjAbIdeal.τ).loc Cert.ProjAbIdeal.main_arg1))
      ∧ r.2.sem = fun _ => 0)

def quiescent_ProjAbRefIdeal [hProjAbRefIdeal : Cert.ProjAbRefIdeal.Facts] : Prop :=
  ∀ (m : (ℓ : Loc Cert.ProjAbRefIdeal.nD Cert.ProjAbRefIdeal.τ Cert.ProjAbRefIdeal.sig) → Buf (Elt Ideal) ℓ) (g : Dev Cert.ProjAbRefIdeal.nD → PrngReg), Pre_ProjAbRefIdeal m →
    θ_run (Cert.ProjAbRefIdeal.defs (F := Ideal)) (onTc (τ := Cert.ProjAbRefIdeal.τ) (Cert.ProjAbRefIdeal.main (F := Ideal))) ⟨m, fun _ => 0, g⟩ (fun r => (∀ c : Dev Cert.ProjAbRefIdeal.nD,
      r.2.mem ((c.tc : Thread Cert.ProjAbRefIdeal.nD Cert.ProjAbRefIdeal.τ).loc Cert.ProjAbRefIdeal.main_arg0) = m ((c.tc : Thread Cert.ProjAbRefIdeal.nD Cert.ProjAbRefIdeal.τ).loc Cert.ProjAbRefIdeal.main_arg0)
      ∧ r.2.mem ((c.tc : Thread Cert.ProjAbRefIdeal.nD Cert.ProjAbRefIdeal.τ).loc Cert.ProjAbRefIdeal.main_arg1) = m ((c.tc : Thread Cert.ProjAbRefIdeal.nD Cert.ProjAbRefIdeal.τ).loc Cert.ProjAbRefIdeal.main_arg1))
      ∧ r.2.sem = fun _ => 0)

def quiescent_ProjCd [hProjCd : Cert.ProjCd.Facts] : Prop :=
  ∀ (m : (ℓ : Loc Cert.ProjCd.nD Cert.ProjCd.τ Cert.ProjCd.sig) → Buf (Elt Bits) ℓ) (g : Dev Cert.ProjCd.nD → PrngReg), Pre_ProjCd m →
    θ_run (Cert.ProjCd.defs (F := Bits)) (onTc (τ := Cert.ProjCd.τ) (Cert.ProjCd.main (F := Bits))) ⟨m, fun _ => 0, g⟩ (fun r => (∀ c : Dev Cert.ProjCd.nD,
      r.2.mem ((c.tc : Thread Cert.ProjCd.nD Cert.ProjCd.τ).loc Cert.ProjCd.main_arg0) = m ((c.tc : Thread Cert.ProjCd.nD Cert.ProjCd.τ).loc Cert.ProjCd.main_arg0)
      ∧ r.2.mem ((c.tc : Thread Cert.ProjCd.nD Cert.ProjCd.τ).loc Cert.ProjCd.main_arg1) = m ((c.tc : Thread Cert.ProjCd.nD Cert.ProjCd.τ).loc Cert.ProjCd.main_arg1))
      ∧ r.2.sem = fun _ => 0)

def quiescent_ProjCdIdeal [hProjCdIdeal : Cert.ProjCdIdeal.Facts] : Prop :=
  ∀ (m : (ℓ : Loc Cert.ProjCdIdeal.nD Cert.ProjCdIdeal.τ Cert.ProjCdIdeal.sig) → Buf (Elt Ideal) ℓ) (g : Dev Cert.ProjCdIdeal.nD → PrngReg), Pre_ProjCdIdeal m →
    θ_run (Cert.ProjCdIdeal.defs (F := Ideal)) (onTc (τ := Cert.ProjCdIdeal.τ) (Cert.ProjCdIdeal.main (F := Ideal))) ⟨m, fun _ => 0, g⟩ (fun r => (∀ c : Dev Cert.ProjCdIdeal.nD,
      r.2.mem ((c.tc : Thread Cert.ProjCdIdeal.nD Cert.ProjCdIdeal.τ).loc Cert.ProjCdIdeal.main_arg0) = m ((c.tc : Thread Cert.ProjCdIdeal.nD Cert.ProjCdIdeal.τ).loc Cert.ProjCdIdeal.main_arg0)
      ∧ r.2.mem ((c.tc : Thread Cert.ProjCdIdeal.nD Cert.ProjCdIdeal.τ).loc Cert.ProjCdIdeal.main_arg1) = m ((c.tc : Thread Cert.ProjCdIdeal.nD Cert.ProjCdIdeal.τ).loc Cert.ProjCdIdeal.main_arg1))
      ∧ r.2.sem = fun _ => 0)

def quiescent_ProjCdRefIdeal [hProjCdRefIdeal : Cert.ProjCdRefIdeal.Facts] : Prop :=
  ∀ (m : (ℓ : Loc Cert.ProjCdRefIdeal.nD Cert.ProjCdRefIdeal.τ Cert.ProjCdRefIdeal.sig) → Buf (Elt Ideal) ℓ) (g : Dev Cert.ProjCdRefIdeal.nD → PrngReg), Pre_ProjCdRefIdeal m →
    θ_run (Cert.ProjCdRefIdeal.defs (F := Ideal)) (onTc (τ := Cert.ProjCdRefIdeal.τ) (Cert.ProjCdRefIdeal.main (F := Ideal))) ⟨m, fun _ => 0, g⟩ (fun r => (∀ c : Dev Cert.ProjCdRefIdeal.nD,
      r.2.mem ((c.tc : Thread Cert.ProjCdRefIdeal.nD Cert.ProjCdRefIdeal.τ).loc Cert.ProjCdRefIdeal.main_arg0) = m ((c.tc : Thread Cert.ProjCdRefIdeal.nD Cert.ProjCdRefIdeal.τ).loc Cert.ProjCdRefIdeal.main_arg0)
      ∧ r.2.mem ((c.tc : Thread Cert.ProjCdRefIdeal.nD Cert.ProjCdRefIdeal.τ).loc Cert.ProjCdRefIdeal.main_arg1) = m ((c.tc : Thread Cert.ProjCdRefIdeal.nD Cert.ProjCdRefIdeal.τ).loc Cert.ProjCdRefIdeal.main_arg1))
      ∧ r.2.sem = fun _ => 0)

def quiescent_LastNorm [hLastNorm : Cert.LastNorm.Facts] : Prop :=
  ∀ (m : (ℓ : Loc Cert.LastNorm.nD Cert.LastNorm.τ Cert.LastNorm.sig) → Buf (Elt Bits) ℓ) (g : Dev Cert.LastNorm.nD → PrngReg), Pre_LastNorm m →
    θ_run (Cert.LastNorm.defs (F := Bits)) (onTc (τ := Cert.LastNorm.τ) (Cert.LastNorm.main (F := Bits))) ⟨m, fun _ => 0, g⟩ (fun r => (∀ c : Dev Cert.LastNorm.nD,
      r.2.mem ((c.tc : Thread Cert.LastNorm.nD Cert.LastNorm.τ).loc Cert.LastNorm.main_arg0) = m ((c.tc : Thread Cert.LastNorm.nD Cert.LastNorm.τ).loc Cert.LastNorm.main_arg0)
      ∧ r.2.mem ((c.tc : Thread Cert.LastNorm.nD Cert.LastNorm.τ).loc Cert.LastNorm.main_arg1) = m ((c.tc : Thread Cert.LastNorm.nD Cert.LastNorm.τ).loc Cert.LastNorm.main_arg1)
      ∧ r.2.mem ((c.tc : Thread Cert.LastNorm.nD Cert.LastNorm.τ).loc Cert.LastNorm.main_arg2) = m ((c.tc : Thread Cert.LastNorm.nD Cert.LastNorm.τ).loc Cert.LastNorm.main_arg2)
      ∧ r.2.mem ((c.tc : Thread Cert.LastNorm.nD Cert.LastNorm.τ).loc Cert.LastNorm.main_arg3) = m ((c.tc : Thread Cert.LastNorm.nD Cert.LastNorm.τ).loc Cert.LastNorm.main_arg3)
      ∧ r.2.mem ((c.tc : Thread Cert.LastNorm.nD Cert.LastNorm.τ).loc Cert.LastNorm.main_arg4) = m ((c.tc : Thread Cert.LastNorm.nD Cert.LastNorm.τ).loc Cert.LastNorm.main_arg4))
      ∧ r.2.sem = fun _ => 0)

def quiescent_LastNormIdeal [hLastNormIdeal : Cert.LastNormIdeal.Facts] : Prop :=
  ∀ (m : (ℓ : Loc Cert.LastNormIdeal.nD Cert.LastNormIdeal.τ Cert.LastNormIdeal.sig) → Buf (Elt Ideal) ℓ) (g : Dev Cert.LastNormIdeal.nD → PrngReg), Pre_LastNormIdeal m →
    θ_run (Cert.LastNormIdeal.defs (F := Ideal)) (onTc (τ := Cert.LastNormIdeal.τ) (Cert.LastNormIdeal.main (F := Ideal))) ⟨m, fun _ => 0, g⟩ (fun r => (∀ c : Dev Cert.LastNormIdeal.nD,
      r.2.mem ((c.tc : Thread Cert.LastNormIdeal.nD Cert.LastNormIdeal.τ).loc Cert.LastNormIdeal.main_arg0) = m ((c.tc : Thread Cert.LastNormIdeal.nD Cert.LastNormIdeal.τ).loc Cert.LastNormIdeal.main_arg0)
      ∧ r.2.mem ((c.tc : Thread Cert.LastNormIdeal.nD Cert.LastNormIdeal.τ).loc Cert.LastNormIdeal.main_arg1) = m ((c.tc : Thread Cert.LastNormIdeal.nD Cert.LastNormIdeal.τ).loc Cert.LastNormIdeal.main_arg1)
      ∧ r.2.mem ((c.tc : Thread Cert.LastNormIdeal.nD Cert.LastNormIdeal.τ).loc Cert.LastNormIdeal.main_arg2) = m ((c.tc : Thread Cert.LastNormIdeal.nD Cert.LastNormIdeal.τ).loc Cert.LastNormIdeal.main_arg2)
      ∧ r.2.mem ((c.tc : Thread Cert.LastNormIdeal.nD Cert.LastNormIdeal.τ).loc Cert.LastNormIdeal.main_arg3) = m ((c.tc : Thread Cert.LastNormIdeal.nD Cert.LastNormIdeal.τ).loc Cert.LastNormIdeal.main_arg3)
      ∧ r.2.mem ((c.tc : Thread Cert.LastNormIdeal.nD Cert.LastNormIdeal.τ).loc Cert.LastNormIdeal.main_arg4) = m ((c.tc : Thread Cert.LastNormIdeal.nD Cert.LastNormIdeal.τ).loc Cert.LastNormIdeal.main_arg4))
      ∧ r.2.sem = fun _ => 0)

def quiescent_LastNormRefIdeal [hLastNormRefIdeal : Cert.LastNormRefIdeal.Facts] : Prop :=
  ∀ (m : (ℓ : Loc Cert.LastNormRefIdeal.nD Cert.LastNormRefIdeal.τ Cert.LastNormRefIdeal.sig) → Buf (Elt Ideal) ℓ) (g : Dev Cert.LastNormRefIdeal.nD → PrngReg), Pre_LastNormRefIdeal m →
    θ_run (Cert.LastNormRefIdeal.defs (F := Ideal)) (onTc (τ := Cert.LastNormRefIdeal.τ) (Cert.LastNormRefIdeal.main (F := Ideal))) ⟨m, fun _ => 0, g⟩ (fun r => (∀ c : Dev Cert.LastNormRefIdeal.nD,
      r.2.mem ((c.tc : Thread Cert.LastNormRefIdeal.nD Cert.LastNormRefIdeal.τ).loc Cert.LastNormRefIdeal.main_arg0) = m ((c.tc : Thread Cert.LastNormRefIdeal.nD Cert.LastNormRefIdeal.τ).loc Cert.LastNormRefIdeal.main_arg0)
      ∧ r.2.mem ((c.tc : Thread Cert.LastNormRefIdeal.nD Cert.LastNormRefIdeal.τ).loc Cert.LastNormRefIdeal.main_arg1) = m ((c.tc : Thread Cert.LastNormRefIdeal.nD Cert.LastNormRefIdeal.τ).loc Cert.LastNormRefIdeal.main_arg1)
      ∧ r.2.mem ((c.tc : Thread Cert.LastNormRefIdeal.nD Cert.LastNormRefIdeal.τ).loc Cert.LastNormRefIdeal.main_arg2) = m ((c.tc : Thread Cert.LastNormRefIdeal.nD Cert.LastNormRefIdeal.τ).loc Cert.LastNormRefIdeal.main_arg2)
      ∧ r.2.mem ((c.tc : Thread Cert.LastNormRefIdeal.nD Cert.LastNormRefIdeal.τ).loc Cert.LastNormRefIdeal.main_arg3) = m ((c.tc : Thread Cert.LastNormRefIdeal.nD Cert.LastNormRefIdeal.τ).loc Cert.LastNormRefIdeal.main_arg3)
      ∧ r.2.mem ((c.tc : Thread Cert.LastNormRefIdeal.nD Cert.LastNormRefIdeal.τ).loc Cert.LastNormRefIdeal.main_arg4) = m ((c.tc : Thread Cert.LastNormRefIdeal.nD Cert.LastNormRefIdeal.τ).loc Cert.LastNormRefIdeal.main_arg4))
      ∧ r.2.sem = fun _ => 0)

def quiescent_NextNorm [hNextNorm : Cert.NextNorm.Facts] : Prop :=
  ∀ (m : (ℓ : Loc Cert.NextNorm.nD Cert.NextNorm.τ Cert.NextNorm.sig) → Buf (Elt Bits) ℓ) (g : Dev Cert.NextNorm.nD → PrngReg), Pre_NextNorm m →
    θ_run (Cert.NextNorm.defs (F := Bits)) (onTc (τ := Cert.NextNorm.τ) (Cert.NextNorm.main (F := Bits))) ⟨m, fun _ => 0, g⟩ (fun r => (∀ c : Dev Cert.NextNorm.nD,
      r.2.mem ((c.tc : Thread Cert.NextNorm.nD Cert.NextNorm.τ).loc Cert.NextNorm.main_arg0) = m ((c.tc : Thread Cert.NextNorm.nD Cert.NextNorm.τ).loc Cert.NextNorm.main_arg0)
      ∧ r.2.mem ((c.tc : Thread Cert.NextNorm.nD Cert.NextNorm.τ).loc Cert.NextNorm.main_arg1) = m ((c.tc : Thread Cert.NextNorm.nD Cert.NextNorm.τ).loc Cert.NextNorm.main_arg1)
      ∧ r.2.mem ((c.tc : Thread Cert.NextNorm.nD Cert.NextNorm.τ).loc Cert.NextNorm.main_arg2) = m ((c.tc : Thread Cert.NextNorm.nD Cert.NextNorm.τ).loc Cert.NextNorm.main_arg2)
      ∧ r.2.mem ((c.tc : Thread Cert.NextNorm.nD Cert.NextNorm.τ).loc Cert.NextNorm.main_arg3) = m ((c.tc : Thread Cert.NextNorm.nD Cert.NextNorm.τ).loc Cert.NextNorm.main_arg3)
      ∧ r.2.mem ((c.tc : Thread Cert.NextNorm.nD Cert.NextNorm.τ).loc Cert.NextNorm.main_arg4) = m ((c.tc : Thread Cert.NextNorm.nD Cert.NextNorm.τ).loc Cert.NextNorm.main_arg4))
      ∧ r.2.sem = fun _ => 0)

def quiescent_NextNormIdeal [hNextNormIdeal : Cert.NextNormIdeal.Facts] : Prop :=
  ∀ (m : (ℓ : Loc Cert.NextNormIdeal.nD Cert.NextNormIdeal.τ Cert.NextNormIdeal.sig) → Buf (Elt Ideal) ℓ) (g : Dev Cert.NextNormIdeal.nD → PrngReg), Pre_NextNormIdeal m →
    θ_run (Cert.NextNormIdeal.defs (F := Ideal)) (onTc (τ := Cert.NextNormIdeal.τ) (Cert.NextNormIdeal.main (F := Ideal))) ⟨m, fun _ => 0, g⟩ (fun r => (∀ c : Dev Cert.NextNormIdeal.nD,
      r.2.mem ((c.tc : Thread Cert.NextNormIdeal.nD Cert.NextNormIdeal.τ).loc Cert.NextNormIdeal.main_arg0) = m ((c.tc : Thread Cert.NextNormIdeal.nD Cert.NextNormIdeal.τ).loc Cert.NextNormIdeal.main_arg0)
      ∧ r.2.mem ((c.tc : Thread Cert.NextNormIdeal.nD Cert.NextNormIdeal.τ).loc Cert.NextNormIdeal.main_arg1) = m ((c.tc : Thread Cert.NextNormIdeal.nD Cert.NextNormIdeal.τ).loc Cert.NextNormIdeal.main_arg1)
      ∧ r.2.mem ((c.tc : Thread Cert.NextNormIdeal.nD Cert.NextNormIdeal.τ).loc Cert.NextNormIdeal.main_arg2) = m ((c.tc : Thread Cert.NextNormIdeal.nD Cert.NextNormIdeal.τ).loc Cert.NextNormIdeal.main_arg2)
      ∧ r.2.mem ((c.tc : Thread Cert.NextNormIdeal.nD Cert.NextNormIdeal.τ).loc Cert.NextNormIdeal.main_arg3) = m ((c.tc : Thread Cert.NextNormIdeal.nD Cert.NextNormIdeal.τ).loc Cert.NextNormIdeal.main_arg3)
      ∧ r.2.mem ((c.tc : Thread Cert.NextNormIdeal.nD Cert.NextNormIdeal.τ).loc Cert.NextNormIdeal.main_arg4) = m ((c.tc : Thread Cert.NextNormIdeal.nD Cert.NextNormIdeal.τ).loc Cert.NextNormIdeal.main_arg4))
      ∧ r.2.sem = fun _ => 0)

def quiescent_NextNormRefIdeal [hNextNormRefIdeal : Cert.NextNormRefIdeal.Facts] : Prop :=
  ∀ (m : (ℓ : Loc Cert.NextNormRefIdeal.nD Cert.NextNormRefIdeal.τ Cert.NextNormRefIdeal.sig) → Buf (Elt Ideal) ℓ) (g : Dev Cert.NextNormRefIdeal.nD → PrngReg), Pre_NextNormRefIdeal m →
    θ_run (Cert.NextNormRefIdeal.defs (F := Ideal)) (onTc (τ := Cert.NextNormRefIdeal.τ) (Cert.NextNormRefIdeal.main (F := Ideal))) ⟨m, fun _ => 0, g⟩ (fun r => (∀ c : Dev Cert.NextNormRefIdeal.nD,
      r.2.mem ((c.tc : Thread Cert.NextNormRefIdeal.nD Cert.NextNormRefIdeal.τ).loc Cert.NextNormRefIdeal.main_arg0) = m ((c.tc : Thread Cert.NextNormRefIdeal.nD Cert.NextNormRefIdeal.τ).loc Cert.NextNormRefIdeal.main_arg0)
      ∧ r.2.mem ((c.tc : Thread Cert.NextNormRefIdeal.nD Cert.NextNormRefIdeal.τ).loc Cert.NextNormRefIdeal.main_arg1) = m ((c.tc : Thread Cert.NextNormRefIdeal.nD Cert.NextNormRefIdeal.τ).loc Cert.NextNormRefIdeal.main_arg1)
      ∧ r.2.mem ((c.tc : Thread Cert.NextNormRefIdeal.nD Cert.NextNormRefIdeal.τ).loc Cert.NextNormRefIdeal.main_arg2) = m ((c.tc : Thread Cert.NextNormRefIdeal.nD Cert.NextNormRefIdeal.τ).loc Cert.NextNormRefIdeal.main_arg2)
      ∧ r.2.mem ((c.tc : Thread Cert.NextNormRefIdeal.nD Cert.NextNormRefIdeal.τ).loc Cert.NextNormRefIdeal.main_arg3) = m ((c.tc : Thread Cert.NextNormRefIdeal.nD Cert.NextNormRefIdeal.τ).loc Cert.NextNormRefIdeal.main_arg3)
      ∧ r.2.mem ((c.tc : Thread Cert.NextNormRefIdeal.nD Cert.NextNormRefIdeal.τ).loc Cert.NextNormRefIdeal.main_arg4) = m ((c.tc : Thread Cert.NextNormRefIdeal.nD Cert.NextNormRefIdeal.τ).loc Cert.NextNormRefIdeal.main_arg4))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def preserves_Ret_RetIdeal : Prop :=
  IdealRules.named_const.Statement Cert.RetIdeal.κ "lg0" .f32 0xBD020AEC#32 ((Real.log (31 / 32) : ℝ) : EReal)
  ∧ IdealRules.named_const.Statement Cert.RetIdeal.κ "cd0" .f32 0x3E063AE5#32 ((279993793990258235750468749959300213014699042596341116563305503247751586492770004816505534904321 / 2135987035920910082395021706169552114602704522356652769947041607822219725780640550022962086936576 : ℝ) : EReal)
  ∧ IdealRules.named_const.Statement Cert.RetIdeal.κ "lg1" .f32 0xBC8102B3#32 ((Real.log (63 / 64) : ℝ) : EReal)
  ∧ IdealRules.named_const.Statement Cert.RetIdeal.κ "cd1" .f32 0x3EBADF84#32 ((14381201289858923833733732277241427911251598557516928831287151963615866190845260542210496569296551598609485715599361 / 39402006196394479212279040100143613805079739270465446667948293404245721771497210611414266254884915640806627990306816 : ℝ) : EReal)
  ∧ IdealRules.named_const.Statement Cert.RetIdeal.κ "lg2" .f32 0xBC0080AC#32 ((Real.log (127 / 128) : ℝ) : EReal)
  ∧ IdealRules.named_const.Statement Cert.RetIdeal.κ "cd2" .f32 0x3F1AF7A1#32 ((439985273984774139364885786774155225074372621425249766976946157772109425125407741241214744259687760072793219732307971501512893104906241 / 726838724295606890549323807888004534353641360687318060281490199180639288113397923326191050713763565560762521606266177933534601628614656 : ℝ) : EReal)
  ∧ IdealRules.named_const.Statement Cert.RetIdeal.κ "lg3" .f32 0xBB80402B#32 ((Real.log (255 / 256) : ℝ) : EReal)
  ∧ IdealRules.named_const.Statement Cert.RetIdeal.κ "cd3" .f32 0x3F474682#32 ((10436900611138725869172867285320967420499386398293333045633692797639857278619179096472846825397665828940838712011497657616843071082257665693759918212890625 / 13407807929942597099574024998205846127479365820592393377723561443721764030073546976801874298166903427690031858186486050853753882811946569946433649006084096 : ℝ) : EReal)
  ∧ IdealRules.named_const.Statement Cert.RetIdeal.κ "lg4" .f32 0xBB00200B#32 ((Real.log (511 / 512) : ℝ) : EReal)
  ∧ IdealRules.named_const.Statement Cert.RetIdeal.κ "cd4" .f32 0x3F61E440#32 ((218241636020506216829380354086718734667828948546680211409869551354306237414753483571641302498293574395602544853989422532033450017854113422523416744723922234661631093540618241 / 247330401473104534060502521019647190035131349101211839914063056092897225106531867170316401061243044989597671426016139339351365034306751209967546155101893167916606772148699136 : ℝ) : EReal)
  ∧ IdealRules.named_const.Statement Cert.RetIdeal.κ "lg5" .f32 0xBA801003#32 ((Real.log (1023 / 1024) : ℝ) : EReal)
  ∧ IdealRules.named_const.Statement Cert.RetIdeal.κ "cd5" .f32 0x3F707B7F#32 ((4285885432447850806795539732780371053641719711369386726444326143948885988799766387406208249070796766913590324622859351451131425550999111956081481651926633468315746942809436970562242817583677441 / 4562440617622195218641171605700291324893228507248559930579192517899275167208677386505912811317371399778642309573594407310688704721375437998252661319722214188251994674360264950082874192246603776 : ℝ) : EReal)
  ∧ IdealRules.named_const.Statement Cert.RetIdeal.κ "lg6" .f32 0xBA000801#32 ((Real.log (2047 / 2048) : ℝ) : EReal)
  ∧ IdealRules.named_const.Statement Cert.RetIdeal.κ "cd6" .f32 0x3F781F2F#32 ((81572153987103923835390548417188269936419197469302464419024158637365591627224861126040490809284806036336096283903811333678792108885610133283962109817091550254355567618599879494019434091716747322461432755836026881 / 84162174424773976115855838126082058648805436845170781751972494449099714468753293153818664580441415219631727501698851483408310916002940861810045036330430093599283578738055113571066620126149163476340692027772502016 : ℝ) : EReal)
  ∧ IdealRules.named_const.Statement Cert.RetIdeal.κ "lg7" .f32 0xB9800400#32 ((Real.log (4095 / 4096) : ℝ) : EReal)
  ∧ IdealRules.named_const.Statement Cert.RetIdeal.κ "cd7" .f32 0x3F7C07D6#32 ((1528445614500468580904863319900517172549706560844310158821371941711840963764572884935763729912498388873465083893773449534099309434758623900714817478936972427490943563436187267727048708782487153323703665819266461767256259918212890625 / 1552518092300708935148979488462502555256886017116696611139052038026050952686376886330878408828646477950487730697131073206171580044114814391444287275041181139204454976020849905550265285631598444825262999193716468750892846853816057856 : ℝ) : EReal)

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)) →
    ∃ (v0 : (c : Dev Cert.RetIdeal.nD) → Buf (Elt Ideal) ((c.tc : Thread Cert.RetIdeal.nD Cert.RetIdeal.τ).loc Cert.RetIdeal.main_v4)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v4) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v137) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v8) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_ProjAb_ProjAbIdeal : Prop :=
  True

def algebraic_ProjAbIdeal_ProjAbRefIdeal [hProjAbIdeal : Cert.ProjAbIdeal.Facts] [hProjAbRefIdeal : Cert.ProjAbRefIdeal.Facts] : Prop :=
  ∀ (m : (ℓ : Loc Cert.ProjAbIdeal.nD Cert.ProjAbIdeal.τ Cert.ProjAbIdeal.sig) → Buf (Elt Ideal) ℓ) (g : Dev Cert.ProjAbIdeal.nD → PrngReg)
    (m' : (ℓ : Loc Cert.ProjAbRefIdeal.nD Cert.ProjAbRefIdeal.τ Cert.ProjAbRefIdeal.sig) → Buf (Elt Ideal) ℓ) (g' : Dev Cert.ProjAbRefIdeal.nD → PrngReg), Pre_ProjAbIdeal m →
    (∀ c : Dev Cert.ProjAbIdeal.nD,
      m' ((c.tc : Thread Cert.ProjAbRefIdeal.nD Cert.ProjAbRefIdeal.τ).loc Cert.ProjAbRefIdeal.main_arg0) = m ((c.tc : Thread Cert.ProjAbIdeal.nD Cert.ProjAbIdeal.τ).loc Cert.ProjAbIdeal.main_arg0)
      ∧ m' ((c.tc : Thread Cert.ProjAbRefIdeal.nD Cert.ProjAbRefIdeal.τ).loc Cert.ProjAbRefIdeal.main_arg1) = m ((c.tc : Thread Cert.ProjAbIdeal.nD Cert.ProjAbIdeal.τ).loc Cert.ProjAbIdeal.main_arg1)) →
    ∃ (v0 : (c : Dev Cert.ProjAbIdeal.nD) → Buf (Elt Ideal) ((c.tc : Thread Cert.ProjAbIdeal.nD Cert.ProjAbIdeal.τ).loc Cert.ProjAbIdeal.main_v0)),
      θ_run (Cert.ProjAbIdeal.defs (F := Ideal)) (onTc (τ := Cert.ProjAbIdeal.τ) (Cert.ProjAbIdeal.main (F := Ideal))) ⟨m, fun _ => 0, g⟩ (fun r => ∀ c : Dev Cert.ProjAbIdeal.nD,
          r.2.mem ((c.tc : Thread Cert.ProjAbIdeal.nD Cert.ProjAbIdeal.τ).loc Cert.ProjAbIdeal.main_v0) = v0 c
          ∧ r.2.mem ((c.tc : Thread Cert.ProjAbIdeal.nD Cert.ProjAbIdeal.τ).loc Cert.ProjAbIdeal.main_arg0) = m ((c.tc : Thread Cert.ProjAbIdeal.nD Cert.ProjAbIdeal.τ).loc Cert.ProjAbIdeal.main_arg0)
          ∧ r.2.mem ((c.tc : Thread Cert.ProjAbIdeal.nD Cert.ProjAbIdeal.τ).loc Cert.ProjAbIdeal.main_arg1) = m ((c.tc : Thread Cert.ProjAbIdeal.nD Cert.ProjAbIdeal.τ).loc Cert.ProjAbIdeal.main_arg1))
      ∧ θ_run (Cert.ProjAbRefIdeal.defs (F := Ideal)) (onTc (τ := Cert.ProjAbRefIdeal.τ) (Cert.ProjAbRefIdeal.main (F := Ideal))) ⟨m', fun _ => 0, g'⟩ (fun r => ∀ c : Dev Cert.ProjAbRefIdeal.nD,
          r.2.mem ((c.tc : Thread Cert.ProjAbRefIdeal.nD Cert.ProjAbRefIdeal.τ).loc Cert.ProjAbRefIdeal.main_v2) = v0 c
          ∧ r.2.mem ((c.tc : Thread Cert.ProjAbRefIdeal.nD Cert.ProjAbRefIdeal.τ).loc Cert.ProjAbRefIdeal.main_arg0) = m' ((c.tc : Thread Cert.ProjAbRefIdeal.nD Cert.ProjAbRefIdeal.τ).loc Cert.ProjAbRefIdeal.main_arg0)
          ∧ r.2.mem ((c.tc : Thread Cert.ProjAbRefIdeal.nD Cert.ProjAbRefIdeal.τ).loc Cert.ProjAbRefIdeal.main_arg1) = m' ((c.tc : Thread Cert.ProjAbRefIdeal.nD Cert.ProjAbRefIdeal.τ).loc Cert.ProjAbRefIdeal.main_arg1))

def preserves_ProjCd_ProjCdIdeal : Prop :=
  True

def algebraic_ProjCdIdeal_ProjCdRefIdeal [hProjCdIdeal : Cert.ProjCdIdeal.Facts] [hProjCdRefIdeal : Cert.ProjCdRefIdeal.Facts] : Prop :=
  ∀ (m : (ℓ : Loc Cert.ProjCdIdeal.nD Cert.ProjCdIdeal.τ Cert.ProjCdIdeal.sig) → Buf (Elt Ideal) ℓ) (g : Dev Cert.ProjCdIdeal.nD → PrngReg)
    (m' : (ℓ : Loc Cert.ProjCdRefIdeal.nD Cert.ProjCdRefIdeal.τ Cert.ProjCdRefIdeal.sig) → Buf (Elt Ideal) ℓ) (g' : Dev Cert.ProjCdRefIdeal.nD → PrngReg), Pre_ProjCdIdeal m →
    (∀ c : Dev Cert.ProjCdIdeal.nD,
      m' ((c.tc : Thread Cert.ProjCdRefIdeal.nD Cert.ProjCdRefIdeal.τ).loc Cert.ProjCdRefIdeal.main_arg0) = m ((c.tc : Thread Cert.ProjCdIdeal.nD Cert.ProjCdIdeal.τ).loc Cert.ProjCdIdeal.main_arg0)
      ∧ m' ((c.tc : Thread Cert.ProjCdRefIdeal.nD Cert.ProjCdRefIdeal.τ).loc Cert.ProjCdRefIdeal.main_arg1) = m ((c.tc : Thread Cert.ProjCdIdeal.nD Cert.ProjCdIdeal.τ).loc Cert.ProjCdIdeal.main_arg1)) →
    ∃ (v0 : (c : Dev Cert.ProjCdIdeal.nD) → Buf (Elt Ideal) ((c.tc : Thread Cert.ProjCdIdeal.nD Cert.ProjCdIdeal.τ).loc Cert.ProjCdIdeal.main_v0)),
      θ_run (Cert.ProjCdIdeal.defs (F := Ideal)) (onTc (τ := Cert.ProjCdIdeal.τ) (Cert.ProjCdIdeal.main (F := Ideal))) ⟨m, fun _ => 0, g⟩ (fun r => ∀ c : Dev Cert.ProjCdIdeal.nD,
          r.2.mem ((c.tc : Thread Cert.ProjCdIdeal.nD Cert.ProjCdIdeal.τ).loc Cert.ProjCdIdeal.main_v0) = v0 c
          ∧ r.2.mem ((c.tc : Thread Cert.ProjCdIdeal.nD Cert.ProjCdIdeal.τ).loc Cert.ProjCdIdeal.main_arg0) = m ((c.tc : Thread Cert.ProjCdIdeal.nD Cert.ProjCdIdeal.τ).loc Cert.ProjCdIdeal.main_arg0)
          ∧ r.2.mem ((c.tc : Thread Cert.ProjCdIdeal.nD Cert.ProjCdIdeal.τ).loc Cert.ProjCdIdeal.main_arg1) = m ((c.tc : Thread Cert.ProjCdIdeal.nD Cert.ProjCdIdeal.τ).loc Cert.ProjCdIdeal.main_arg1))
      ∧ θ_run (Cert.ProjCdRefIdeal.defs (F := Ideal)) (onTc (τ := Cert.ProjCdRefIdeal.τ) (Cert.ProjCdRefIdeal.main (F := Ideal))) ⟨m', fun _ => 0, g'⟩ (fun r => ∀ c : Dev Cert.ProjCdRefIdeal.nD,
          r.2.mem ((c.tc : Thread Cert.ProjCdRefIdeal.nD Cert.ProjCdRefIdeal.τ).loc Cert.ProjCdRefIdeal.main_v2) = v0 c
          ∧ r.2.mem ((c.tc : Thread Cert.ProjCdRefIdeal.nD Cert.ProjCdRefIdeal.τ).loc Cert.ProjCdRefIdeal.main_arg0) = m' ((c.tc : Thread Cert.ProjCdRefIdeal.nD Cert.ProjCdRefIdeal.τ).loc Cert.ProjCdRefIdeal.main_arg0)
          ∧ r.2.mem ((c.tc : Thread Cert.ProjCdRefIdeal.nD Cert.ProjCdRefIdeal.τ).loc Cert.ProjCdRefIdeal.main_arg1) = m' ((c.tc : Thread Cert.ProjCdRefIdeal.nD Cert.ProjCdRefIdeal.τ).loc Cert.ProjCdRefIdeal.main_arg1))

def preserves_LastNorm_LastNormIdeal : Prop :=
  True

def algebraic_LastNormIdeal_LastNormRefIdeal [hLastNormIdeal : Cert.LastNormIdeal.Facts] [hLastNormRefIdeal : Cert.LastNormRefIdeal.Facts] : Prop :=
  ∀ (m : (ℓ : Loc Cert.LastNormIdeal.nD Cert.LastNormIdeal.τ Cert.LastNormIdeal.sig) → Buf (Elt Ideal) ℓ) (g : Dev Cert.LastNormIdeal.nD → PrngReg)
    (m' : (ℓ : Loc Cert.LastNormRefIdeal.nD Cert.LastNormRefIdeal.τ Cert.LastNormRefIdeal.sig) → Buf (Elt Ideal) ℓ) (g' : Dev Cert.LastNormRefIdeal.nD → PrngReg), Pre_LastNormIdeal m →
    (∀ c : Dev Cert.LastNormIdeal.nD,
      m' ((c.tc : Thread Cert.LastNormRefIdeal.nD Cert.LastNormRefIdeal.τ).loc Cert.LastNormRefIdeal.main_arg0) = m ((c.tc : Thread Cert.LastNormIdeal.nD Cert.LastNormIdeal.τ).loc Cert.LastNormIdeal.main_arg0)
      ∧ m' ((c.tc : Thread Cert.LastNormRefIdeal.nD Cert.LastNormRefIdeal.τ).loc Cert.LastNormRefIdeal.main_arg1) = m ((c.tc : Thread Cert.LastNormIdeal.nD Cert.LastNormIdeal.τ).loc Cert.LastNormIdeal.main_arg1)
      ∧ m' ((c.tc : Thread Cert.LastNormRefIdeal.nD Cert.LastNormRefIdeal.τ).loc Cert.LastNormRefIdeal.main_arg2) = m ((c.tc : Thread Cert.LastNormIdeal.nD Cert.LastNormIdeal.τ).loc Cert.LastNormIdeal.main_arg2)
      ∧ m' ((c.tc : Thread Cert.LastNormRefIdeal.nD Cert.LastNormRefIdeal.τ).loc Cert.LastNormRefIdeal.main_arg3) = m ((c.tc : Thread Cert.LastNormIdeal.nD Cert.LastNormIdeal.τ).loc Cert.LastNormIdeal.main_arg3)
      ∧ m' ((c.tc : Thread Cert.LastNormRefIdeal.nD Cert.LastNormRefIdeal.τ).loc Cert.LastNormRefIdeal.main_arg4) = m ((c.tc : Thread Cert.LastNormIdeal.nD Cert.LastNormIdeal.τ).loc Cert.LastNormIdeal.main_arg4)) →
    ∃ (v0 : (c : Dev Cert.LastNormIdeal.nD) → Buf (Elt Ideal) ((c.tc : Thread Cert.LastNormIdeal.nD Cert.LastNormIdeal.τ).loc Cert.LastNormIdeal.main_v3)),
      θ_run (Cert.LastNormIdeal.defs (F := Ideal)) (onTc (τ := Cert.LastNormIdeal.τ) (Cert.LastNormIdeal.main (F := Ideal))) ⟨m, fun _ => 0, g⟩ (fun r => ∀ c : Dev Cert.LastNormIdeal.nD,
          r.2.mem ((c.tc : Thread Cert.LastNormIdeal.nD Cert.LastNormIdeal.τ).loc Cert.LastNormIdeal.main_v3) = v0 c
          ∧ r.2.mem ((c.tc : Thread Cert.LastNormIdeal.nD Cert.LastNormIdeal.τ).loc Cert.LastNormIdeal.main_arg0) = m ((c.tc : Thread Cert.LastNormIdeal.nD Cert.LastNormIdeal.τ).loc Cert.LastNormIdeal.main_arg0)
          ∧ r.2.mem ((c.tc : Thread Cert.LastNormIdeal.nD Cert.LastNormIdeal.τ).loc Cert.LastNormIdeal.main_arg1) = m ((c.tc : Thread Cert.LastNormIdeal.nD Cert.LastNormIdeal.τ).loc Cert.LastNormIdeal.main_arg1)
          ∧ r.2.mem ((c.tc : Thread Cert.LastNormIdeal.nD Cert.LastNormIdeal.τ).loc Cert.LastNormIdeal.main_arg2) = m ((c.tc : Thread Cert.LastNormIdeal.nD Cert.LastNormIdeal.τ).loc Cert.LastNormIdeal.main_arg2)
          ∧ r.2.mem ((c.tc : Thread Cert.LastNormIdeal.nD Cert.LastNormIdeal.τ).loc Cert.LastNormIdeal.main_arg3) = m ((c.tc : Thread Cert.LastNormIdeal.nD Cert.LastNormIdeal.τ).loc Cert.LastNormIdeal.main_arg3)
          ∧ r.2.mem ((c.tc : Thread Cert.LastNormIdeal.nD Cert.LastNormIdeal.τ).loc Cert.LastNormIdeal.main_arg4) = m ((c.tc : Thread Cert.LastNormIdeal.nD Cert.LastNormIdeal.τ).loc Cert.LastNormIdeal.main_arg4))
      ∧ θ_run (Cert.LastNormRefIdeal.defs (F := Ideal)) (onTc (τ := Cert.LastNormRefIdeal.τ) (Cert.LastNormRefIdeal.main (F := Ideal))) ⟨m', fun _ => 0, g'⟩ (fun r => ∀ c : Dev Cert.LastNormRefIdeal.nD,
          r.2.mem ((c.tc : Thread Cert.LastNormRefIdeal.nD Cert.LastNormRefIdeal.τ).loc Cert.LastNormRefIdeal.main_v36) = v0 c
          ∧ r.2.mem ((c.tc : Thread Cert.LastNormRefIdeal.nD Cert.LastNormRefIdeal.τ).loc Cert.LastNormRefIdeal.main_arg0) = m' ((c.tc : Thread Cert.LastNormRefIdeal.nD Cert.LastNormRefIdeal.τ).loc Cert.LastNormRefIdeal.main_arg0)
          ∧ r.2.mem ((c.tc : Thread Cert.LastNormRefIdeal.nD Cert.LastNormRefIdeal.τ).loc Cert.LastNormRefIdeal.main_arg1) = m' ((c.tc : Thread Cert.LastNormRefIdeal.nD Cert.LastNormRefIdeal.τ).loc Cert.LastNormRefIdeal.main_arg1)
          ∧ r.2.mem ((c.tc : Thread Cert.LastNormRefIdeal.nD Cert.LastNormRefIdeal.τ).loc Cert.LastNormRefIdeal.main_arg2) = m' ((c.tc : Thread Cert.LastNormRefIdeal.nD Cert.LastNormRefIdeal.τ).loc Cert.LastNormRefIdeal.main_arg2)
          ∧ r.2.mem ((c.tc : Thread Cert.LastNormRefIdeal.nD Cert.LastNormRefIdeal.τ).loc Cert.LastNormRefIdeal.main_arg3) = m' ((c.tc : Thread Cert.LastNormRefIdeal.nD Cert.LastNormRefIdeal.τ).loc Cert.LastNormRefIdeal.main_arg3)
          ∧ r.2.mem ((c.tc : Thread Cert.LastNormRefIdeal.nD Cert.LastNormRefIdeal.τ).loc Cert.LastNormRefIdeal.main_arg4) = m' ((c.tc : Thread Cert.LastNormRefIdeal.nD Cert.LastNormRefIdeal.τ).loc Cert.LastNormRefIdeal.main_arg4))

def preserves_NextNorm_NextNormIdeal : Prop :=
  True

def algebraic_NextNormIdeal_NextNormRefIdeal [hNextNormIdeal : Cert.NextNormIdeal.Facts] [hNextNormRefIdeal : Cert.NextNormRefIdeal.Facts] : Prop :=
  ∀ (m : (ℓ : Loc Cert.NextNormIdeal.nD Cert.NextNormIdeal.τ Cert.NextNormIdeal.sig) → Buf (Elt Ideal) ℓ) (g : Dev Cert.NextNormIdeal.nD → PrngReg)
    (m' : (ℓ : Loc Cert.NextNormRefIdeal.nD Cert.NextNormRefIdeal.τ Cert.NextNormRefIdeal.sig) → Buf (Elt Ideal) ℓ) (g' : Dev Cert.NextNormRefIdeal.nD → PrngReg), Pre_NextNormIdeal m →
    (∀ c : Dev Cert.NextNormIdeal.nD,
      m' ((c.tc : Thread Cert.NextNormRefIdeal.nD Cert.NextNormRefIdeal.τ).loc Cert.NextNormRefIdeal.main_arg0) = m ((c.tc : Thread Cert.NextNormIdeal.nD Cert.NextNormIdeal.τ).loc Cert.NextNormIdeal.main_arg0)
      ∧ m' ((c.tc : Thread Cert.NextNormRefIdeal.nD Cert.NextNormRefIdeal.τ).loc Cert.NextNormRefIdeal.main_arg1) = m ((c.tc : Thread Cert.NextNormIdeal.nD Cert.NextNormIdeal.τ).loc Cert.NextNormIdeal.main_arg1)
      ∧ m' ((c.tc : Thread Cert.NextNormRefIdeal.nD Cert.NextNormRefIdeal.τ).loc Cert.NextNormRefIdeal.main_arg2) = m ((c.tc : Thread Cert.NextNormIdeal.nD Cert.NextNormIdeal.τ).loc Cert.NextNormIdeal.main_arg2)
      ∧ m' ((c.tc : Thread Cert.NextNormRefIdeal.nD Cert.NextNormRefIdeal.τ).loc Cert.NextNormRefIdeal.main_arg3) = m ((c.tc : Thread Cert.NextNormIdeal.nD Cert.NextNormIdeal.τ).loc Cert.NextNormIdeal.main_arg3)
      ∧ m' ((c.tc : Thread Cert.NextNormRefIdeal.nD Cert.NextNormRefIdeal.τ).loc Cert.NextNormRefIdeal.main_arg4) = m ((c.tc : Thread Cert.NextNormIdeal.nD Cert.NextNormIdeal.τ).loc Cert.NextNormIdeal.main_arg4)) →
    ∃ (v0 : (c : Dev Cert.NextNormIdeal.nD) → Buf (Elt Ideal) ((c.tc : Thread Cert.NextNormIdeal.nD Cert.NextNormIdeal.τ).loc Cert.NextNormIdeal.main_v3_0)) (v1 : (c : Dev Cert.NextNormIdeal.nD) → Buf (Elt Ideal) ((c.tc : Thread Cert.NextNormIdeal.nD Cert.NextNormIdeal.τ).loc Cert.NextNormIdeal.main_v3_1)),
      θ_run (Cert.NextNormIdeal.defs (F := Ideal)) (onTc (τ := Cert.NextNormIdeal.τ) (Cert.NextNormIdeal.main (F := Ideal))) ⟨m, fun _ => 0, g⟩ (fun r => ∀ c : Dev Cert.NextNormIdeal.nD,
          r.2.mem ((c.tc : Thread Cert.NextNormIdeal.nD Cert.NextNormIdeal.τ).loc Cert.NextNormIdeal.main_v3_0) = v0 c
          ∧ r.2.mem ((c.tc : Thread Cert.NextNormIdeal.nD Cert.NextNormIdeal.τ).loc Cert.NextNormIdeal.main_v3_1) = v1 c
          ∧ r.2.mem ((c.tc : Thread Cert.NextNormIdeal.nD Cert.NextNormIdeal.τ).loc Cert.NextNormIdeal.main_arg0) = m ((c.tc : Thread Cert.NextNormIdeal.nD Cert.NextNormIdeal.τ).loc Cert.NextNormIdeal.main_arg0)
          ∧ r.2.mem ((c.tc : Thread Cert.NextNormIdeal.nD Cert.NextNormIdeal.τ).loc Cert.NextNormIdeal.main_arg1) = m ((c.tc : Thread Cert.NextNormIdeal.nD Cert.NextNormIdeal.τ).loc Cert.NextNormIdeal.main_arg1)
          ∧ r.2.mem ((c.tc : Thread Cert.NextNormIdeal.nD Cert.NextNormIdeal.τ).loc Cert.NextNormIdeal.main_arg2) = m ((c.tc : Thread Cert.NextNormIdeal.nD Cert.NextNormIdeal.τ).loc Cert.NextNormIdeal.main_arg2)
          ∧ r.2.mem ((c.tc : Thread Cert.NextNormIdeal.nD Cert.NextNormIdeal.τ).loc Cert.NextNormIdeal.main_arg3) = m ((c.tc : Thread Cert.NextNormIdeal.nD Cert.NextNormIdeal.τ).loc Cert.NextNormIdeal.main_arg3)
          ∧ r.2.mem ((c.tc : Thread Cert.NextNormIdeal.nD Cert.NextNormIdeal.τ).loc Cert.NextNormIdeal.main_arg4) = m ((c.tc : Thread Cert.NextNormIdeal.nD Cert.NextNormIdeal.τ).loc Cert.NextNormIdeal.main_arg4))
      ∧ θ_run (Cert.NextNormRefIdeal.defs (F := Ideal)) (onTc (τ := Cert.NextNormRefIdeal.τ) (Cert.NextNormRefIdeal.main (F := Ideal))) ⟨m', fun _ => 0, g'⟩ (fun r => ∀ c : Dev Cert.NextNormRefIdeal.nD,
          r.2.mem ((c.tc : Thread Cert.NextNormRefIdeal.nD Cert.NextNormRefIdeal.τ).loc Cert.NextNormRefIdeal.main_v36) = v0 c
          ∧ r.2.mem ((c.tc : Thread Cert.NextNormRefIdeal.nD Cert.NextNormRefIdeal.τ).loc Cert.NextNormRefIdeal.main_v49) = v1 c
          ∧ r.2.mem ((c.tc : Thread Cert.NextNormRefIdeal.nD Cert.NextNormRefIdeal.τ).loc Cert.NextNormRefIdeal.main_arg0) = m' ((c.tc : Thread Cert.NextNormRefIdeal.nD Cert.NextNormRefIdeal.τ).loc Cert.NextNormRefIdeal.main_arg0)
          ∧ r.2.mem ((c.tc : Thread Cert.NextNormRefIdeal.nD Cert.NextNormRefIdeal.τ).loc Cert.NextNormRefIdeal.main_arg1) = m' ((c.tc : Thread Cert.NextNormRefIdeal.nD Cert.NextNormRefIdeal.τ).loc Cert.NextNormRefIdeal.main_arg1)
          ∧ r.2.mem ((c.tc : Thread Cert.NextNormRefIdeal.nD Cert.NextNormRefIdeal.τ).loc Cert.NextNormRefIdeal.main_arg2) = m' ((c.tc : Thread Cert.NextNormRefIdeal.nD Cert.NextNormRefIdeal.τ).loc Cert.NextNormRefIdeal.main_arg2)
          ∧ r.2.mem ((c.tc : Thread Cert.NextNormRefIdeal.nD Cert.NextNormRefIdeal.τ).loc Cert.NextNormRefIdeal.main_arg3) = m' ((c.tc : Thread Cert.NextNormRefIdeal.nD Cert.NextNormRefIdeal.τ).loc Cert.NextNormRefIdeal.main_arg3)
          ∧ r.2.mem ((c.tc : Thread Cert.NextNormRefIdeal.nD Cert.NextNormRefIdeal.τ).loc Cert.NextNormRefIdeal.main_arg4) = m' ((c.tc : Thread Cert.NextNormRefIdeal.nD Cert.NextNormRefIdeal.τ).loc Cert.NextNormRefIdeal.main_arg4))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)) →
    ∃ (v0 : (c : Dev Cert.ModulateIdeal.nD) → Buf (Elt Ideal) ((c.tc : Thread Cert.ModulateIdeal.nD Cert.ModulateIdeal.τ).loc Cert.ModulateIdeal.main_v1)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v1) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v12) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v9_0)) (v1 : (c : Dev Cert.RopeIdeal.nD) → Buf (Elt Ideal) ((c.tc : Thread Cert.RopeIdeal.nD Cert.RopeIdeal.τ).loc Cert.RopeIdeal.main_v9_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v9_0) = v0 c
          ∧ r.2.mem ((c.tc : Thread Cert.RopeIdeal.nD Cert.RopeIdeal.τ).loc Cert.RopeIdeal.main_v9_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v14) = v0 c
          ∧ r.2.mem ((c.tc : Thread Cert.RopeRefIdeal.nD Cert.RopeRefIdeal.τ).loc Cert.RopeRefIdeal.main_v16) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def Claim : Prop :=
  ∃ (hRet : Cert.Ret.Facts) (hRetIdeal : Cert.RetIdeal.Facts) (hRetRefIdeal : Cert.RetRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hProjAb : Cert.ProjAb.Facts) (hProjAbIdeal : Cert.ProjAbIdeal.Facts) (hProjAbRefIdeal : Cert.ProjAbRefIdeal.Facts) (hProjCd : Cert.ProjCd.Facts) (hProjCdIdeal : Cert.ProjCdIdeal.Facts) (hProjCdRefIdeal : Cert.ProjCdRefIdeal.Facts) (hLastNorm : Cert.LastNorm.Facts) (hLastNormIdeal : Cert.LastNormIdeal.Facts) (hLastNormRefIdeal : Cert.LastNormRefIdeal.Facts) (hNextNorm : Cert.NextNorm.Facts) (hNextNormIdeal : Cert.NextNormIdeal.Facts) (hNextNormRefIdeal : Cert.NextNormRefIdeal.Facts) (hModulate : Cert.Modulate.Facts) (hModulateIdeal : Cert.ModulateIdeal.Facts) (hModulateRefIdeal : Cert.ModulateRefIdeal.Facts) (hAda : Cert.Ada.Facts) (hAdaIdeal : Cert.AdaIdeal.Facts) (hAdaRefIdeal : Cert.AdaRefIdeal.Facts) (hRope : Cert.Rope.Facts) (hRopeIdeal : Cert.RopeIdeal.Facts) (hRopeRefIdeal : Cert.RopeRefIdeal.Facts),
    quiescent_Ret (hRet := hRet)
    ∧ quiescent_RetIdeal (hRetIdeal := hRetIdeal)
    ∧ quiescent_RetRefIdeal (hRetRefIdeal := hRetRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_ProjAb (hProjAb := hProjAb)
    ∧ quiescent_ProjAbIdeal (hProjAbIdeal := hProjAbIdeal)
    ∧ quiescent_ProjAbRefIdeal (hProjAbRefIdeal := hProjAbRefIdeal)
    ∧ quiescent_ProjCd (hProjCd := hProjCd)
    ∧ quiescent_ProjCdIdeal (hProjCdIdeal := hProjCdIdeal)
    ∧ quiescent_ProjCdRefIdeal (hProjCdRefIdeal := hProjCdRefIdeal)
    ∧ quiescent_LastNorm (hLastNorm := hLastNorm)
    ∧ quiescent_LastNormIdeal (hLastNormIdeal := hLastNormIdeal)
    ∧ quiescent_LastNormRefIdeal (hLastNormRefIdeal := hLastNormRefIdeal)
    ∧ quiescent_NextNorm (hNextNorm := hNextNorm)
    ∧ quiescent_NextNormIdeal (hNextNormIdeal := hNextNormIdeal)
    ∧ quiescent_NextNormRefIdeal (hNextNormRefIdeal := hNextNormRefIdeal)
    ∧ quiescent_Modulate (hModulate := hModulate)
    ∧ quiescent_ModulateIdeal (hModulateIdeal := hModulateIdeal)
    ∧ quiescent_ModulateRefIdeal (hModulateRefIdeal := hModulateRefIdeal)
    ∧ quiescent_Ada (hAda := hAda)
    ∧ quiescent_AdaIdeal (hAdaIdeal := hAdaIdeal)
    ∧ quiescent_AdaRefIdeal (hAdaRefIdeal := hAdaRefIdeal)
    ∧ quiescent_Rope (hRope := hRope)
    ∧ quiescent_RopeIdeal (hRopeIdeal := hRopeIdeal)
    ∧ quiescent_RopeRefIdeal (hRopeRefIdeal := hRopeRefIdeal)
    ∧ preserves_Ret_RetIdeal
    ∧ algebraic_RetIdeal_RetRefIdeal (hRetIdeal := hRetIdeal) (hRetRefIdeal := hRetRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_ProjAb_ProjAbIdeal
    ∧ algebraic_ProjAbIdeal_ProjAbRefIdeal (hProjAbIdeal := hProjAbIdeal) (hProjAbRefIdeal := hProjAbRefIdeal)
    ∧ preserves_ProjCd_ProjCdIdeal
    ∧ algebraic_ProjCdIdeal_ProjCdRefIdeal (hProjCdIdeal := hProjCdIdeal) (hProjCdRefIdeal := hProjCdRefIdeal)
    ∧ preserves_LastNorm_LastNormIdeal
    ∧ algebraic_LastNormIdeal_LastNormRefIdeal (hLastNormIdeal := hLastNormIdeal) (hLastNormRefIdeal := hLastNormRefIdeal)
    ∧ preserves_NextNorm_NextNormIdeal
    ∧ algebraic_NextNormIdeal_NextNormRefIdeal (hNextNormIdeal := hNextNormIdeal) (hNextNormRefIdeal := hNextNormRefIdeal)
    ∧ preserves_Modulate_ModulateIdeal
    ∧ algebraic_ModulateIdeal_ModulateRefIdeal (hModulateIdeal := hModulateIdeal) (hModulateRefIdeal := hModulateRefIdeal)
    ∧ preserves_Ada_AdaIdeal
    ∧ algebraic_AdaIdeal_AdaRefIdeal (hAdaIdeal := hAdaIdeal) (hAdaRefIdeal := hAdaRefIdeal)
    ∧ preserves_Rope_RopeIdeal
    ∧ algebraic_RopeIdeal_RopeRefIdeal (hRopeIdeal := hRopeIdeal) (hRopeRefIdeal := hRopeRefIdeal)
-- ==== Ret.lean ====
abbrev S4x2048x8320 : Shape := ⟨3, ![4, 2048, 8320]⟩
abbrev S4x2048x64 : Shape := ⟨3, ![4, 2048, 64]⟩
abbrev S1024 : Shape := ⟨1, ![1024]⟩
abbrev S4x2048x128 : Shape := ⟨3, ![4, 2048, 128]⟩
abbrev S1x1024 : Shape := ⟨2, ![1, 1024]⟩
abbrev S4x2048x1024 : Shape := ⟨3, ![4, 2048, 1024]⟩
abbrev S1x256x1024 : Shape := ⟨3, ![1, 256, 1024]⟩
abbrev S1x256x128 : Shape := ⟨3, ![1, 256, 128]⟩
abbrev S8x128x128 : Shape := ⟨3, ![8, 128, 128]⟩
abbrev S64x64 : Shape := ⟨2, ![64, 64]⟩
abbrev S64x1 : Shape := ⟨2, ![64, 1]⟩
abbrev S1x64x128 : Shape := ⟨3, ![1, 64, 128]⟩
abbrev S64x128 : Shape := ⟨2, ![64, 128]⟩
abbrev S1x128x128 : Shape := ⟨3, ![1, 128, 128]⟩
abbrev S128x128 : Shape := ⟨2, ![128, 128]⟩
abbrev S128x64 : Shape := ⟨2, ![128, 64]⟩
abbrev S1x128 : Shape := ⟨2, ![1, 128]⟩
abbrev S64 : Shape := ⟨1, ![64]⟩

abbrev nBuf : Space → Nat
  | .hbm => 9
  | .vmem => 16
  | .smem => 0
  | _ => 0

abbrev bufTy : (tb : Table) → Fin (tcTables nBuf tb) → BufTy
  | .hbm, ⟨0, _⟩ => ⟨S4x2048x8320, .f32⟩
  | .hbm, ⟨1, _⟩ => ⟨S4x2048x64, .f32⟩
  | .hbm, ⟨2, _⟩ => ⟨S4x2048x64, .f32⟩
  | .hbm, ⟨3, _⟩ => ⟨S1024, .f32⟩
  | .hbm, ⟨4, _⟩ => ⟨S4x2048x128, .f32⟩
  | .hbm, ⟨5, _⟩ => ⟨S4x2048x64, .f32⟩
  | .hbm, ⟨6, _⟩ => ⟨S4x2048x128, .f32⟩
  | .hbm, ⟨7, _⟩ => ⟨S1x1024, .f32⟩
  | .hbm, ⟨8, _⟩ => ⟨S4x2048x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x1024, .f32⟩
  | .local _ .vmem, ⟨13, _⟩ => ⟨S1x256x1024, .bf16⟩
  | .local _ .vmem, ⟨14, _⟩ => ⟨S1x256x1024, .bf16⟩
  | .local _ .vmem, ⟨15, _⟩ => ⟨S8x128x128, .f32⟩
  | _, _ => ⟨S4x2048x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_1 : BitVec 32 := 0#32
  let c4_i32 : BitVec 32 := 4#32
  let v12 : BitVec 32 := Scalar.addi c0_i32_1 c4_i32
  let c1_i32 : BitVec 32 := 1#32
  ⟨c0_i32_1, v12, c1_i32⟩
def k0_mult1 (k0_t1 : Fin k0_t1_loop.trips) : BitVec 32 :=
  let c0_i32_1 : BitVec 32 := 0#32
  let c1_i32 : BitVec 32 := 1#32
  let arg11 : BitVec 32 := Scf.iv c0_i32_1 c1_i32 k0_t1
  let c64_i32 : BitVec 32 := 64#32
  let v13 : BitVec 32 := Scalar.muli arg11 c64_i32
  v13
def k0_off1 (k0_t1 : Fin k0_t1_loop.trips) : Fin 3 → Nat :=
  let c0 : Index := 0#32
  let c0_i32_1 : BitVec 32 := 0#32
  let c1_i32 : BitVec 32 := 1#32
  let arg11 : BitVec 32 := Scf.iv c0_i32_1 c1_i32 k0_t1
  let c64_i32 : BitVec 32 := 64#32
  let v13 : BitVec 32 := Scalar.muli arg11 c64_i32
  let v14 : BitVec 32 := v13
  let v15 : Index := Scalar.indexCast v14
  let c0_3 : Index := 0#32
  ![0, v15.toNat, 0]
def k0_off2 (k0_t1 : Fin k0_t1_loop.trips) : Fin 3 → Nat :=
  let c0_6 : Index := 0#32
  let c0_i32_1 : BitVec 32 := 0#32
  let c1_i32 : BitVec 32 := 1#32
  let arg11 : BitVec 32 := Scf.iv c0_i32_1 c1_i32 k0_t1
  let c64_i32 : BitVec 32 := 64#32
  let v13 : BitVec 32 := Scalar.muli arg11 c64_i32
  let v14 : BitVec 32 := v13
  let v21 : Index := Scalar.indexCast v14
  let c0_7 : Index := 0#32
  ![0, v21.toNat, 0]
def k0_off3 (k0_t1 : Fin k0_t1_loop.trips) : Fin 3 → Nat :=
  let c0_45 : Index := 0#32
  let c0_i32_1 : BitVec 32 := 0#32
  let c1_i32 : BitVec 32 := 1#32
  let arg11 : BitVec 32 := Scf.iv c0_i32_1 c1_i32 k0_t1
  let c64_i32 : BitVec 32 := 64#32
  let v13 : BitVec 32 := Scalar.muli arg11 c64_i32
  let v14 : BitVec 32 := v13
  let v111 : Index := Scalar.indexCast v14
  let c128 : Index := 128#32
  ![0, v111.toNat, 128]
def k0_off4 (k0_t1 : Fin k0_t1_loop.trips) : Fin 3 → Nat :=
  let c0_83 : Index := 0#32
  let c0_i32_1 : BitVec 32 := 0#32
  let c1_i32 : BitVec 32 := 1#32
  let arg11 : BitVec 32 := Scf.iv c0_i32_1 c1_i32 k0_t1
  let c64_i32 : BitVec 32 := 64#32
  let v13 : BitVec 32 := Scalar.muli arg11 c64_i32
  let v14 : BitVec 32 := v13
  let v201 : Index := Scalar.indexCast v14
  let c256 : Index := 256#32
  ![0, v201.toNat, 256]
def k0_off5 (k0_t1 : Fin k0_t1_loop.trips) : Fin 3 → Nat :=
  let c0_121 : Index := 0#32
  let c0_i32_1 : BitVec 32 := 0#32
  let c1_i32 : BitVec 32 := 1#32
  let arg11 : BitVec 32 := Scf.iv c0_i32_1 c1_i32 k0_t1
  let c64_i32 : BitVec 32 := 64#32
  let v13 : BitVec 32 := Scalar.muli arg11 c64_i32
  let v14 : BitVec 32 := v13
  let v291 : Index := Scalar.indexCast v14
  let c384 : Index := 384#32
  ![0, v291.toNat, 384]
def k0_off6 (k0_t1 : Fin k0_t1_loop.trips) : Fin 3 → Nat :=
  let c0_159 : Index := 0#32
  let c0_i32_1 : BitVec 32 := 0#32
  let c1_i32 : BitVec 32 := 1#32
  let arg11 : BitVec 32 := Scf.iv c0_i32_1 c1_i32 k0_t1
  let c64_i32 : BitVec 32 := 64#32
  let v13 : BitVec 32 := Scalar.muli arg11 c64_i32
  let v14 : BitVec 32 := v13
  let v381 : Index := Scalar.indexCast v14
  let c512 : Index := 512#32
  ![0, v381.toNat, 512]
def k0_off7 (k0_t1 : Fin k0_t1_loop.trips) : Fin 3 → Nat :=
  let c0_197 : Index := 0#32
  let c0_i32_1 : BitVec 32 := 0#32
  let c1_i32 : BitVec 32 := 1#32
  let arg11 : BitVec 32 := Scf.iv c0_i32_1 c1_i32 k0_t1
  let c64_i32 : BitVec 32 := 64#32
  let v13 : BitVec 32 := Scalar.muli arg11 c64_i32
  let v14 : BitVec 32 := v13
  let v471 : Index := Scalar.indexCast v14
  let c640 : Index := 640#32
  ![0, v471.toNat, 640]
def k0_off8 (k0_t1 : Fin k0_t1_loop.trips) : Fin 3 → Nat :=
  let c0_235 : Index := 0#32
  let c0_i32_1 : BitVec 32 := 0#32
  let c1_i32 : BitVec 32 := 1#32
  let arg11 : BitVec 32 := Scf.iv c0_i32_1 c1_i32 k0_t1
  let c64_i32 : BitVec 32 := 64#32
  let v13 : BitVec 32 := Scalar.muli arg11 c64_i32
  let v14 : BitVec 32 := v13
  let v561 : Index := Scalar.indexCast v14
  let c768 : Index := 768#32
  ![0, v561.toNat, 768]
def k0_off9 (k0_t1 : Fin k0_t1_loop.trips) : Fin 3 → Nat :=
  let c0_273 : Index := 0#32
  let c0_i32_1 : BitVec 32 := 0#32
  let c1_i32 : BitVec 32 := 1#32
  let arg11 : BitVec 32 := Scf.iv c0_i32_1 c1_i32 k0_t1
  let c64_i32 : BitVec 32 := 64#32
  let v13 : BitVec 32 := Scalar.muli arg11 c64_i32
  let v14 : BitVec 32 := v13
  let v651 : Index := Scalar.indexCast v14
  let c896 : Index := 896#32
  ![0, v651.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RetIdeal.lean ====
variable {F : FTy → Type} [FloatOps F] [Named F]
def κ : String → Option EReal := fun
  | "cd0" => some ((279993793990258235750468749959300213014699042596341116563305503247751586492770004816505534904321 / 2135987035920910082395021706169552114602704522356652769947041607822219725780640550022962086936576 : ℝ) : EReal)
  | "cd1" => some ((14381201289858923833733732277241427911251598557516928831287151963615866190845260542210496569296551598609485715599361 / 39402006196394479212279040100143613805079739270465446667948293404245721771497210611414266254884915640806627990306816 : ℝ) : EReal)
  | "cd2" => some ((439985273984774139364885786774155225074372621425249766976946157772109425125407741241214744259687760072793219732307971501512893104906241 / 726838724295606890549323807888004534353641360687318060281490199180639288113397923326191050713763565560762521606266177933534601628614656 : ℝ) : EReal)
  | "cd3" => some ((10436900611138725869172867285320967420499386398293333045633692797639857278619179096472846825397665828940838712011497657616843071082257665693759918212890625 / 13407807929942597099574024998205846127479365820592393377723561443721764030073546976801874298166903427690031858186486050853753882811946569946433649006084096 : ℝ) : EReal)
  | "cd4" => some ((218241636020506216829380354086718734667828948546680211409869551354306237414753483571641302498293574395602544853989422532033450017854113422523416744723922234661631093540618241 / 247330401473104534060502521019647190035131349101211839914063056092897225106531867170316401061243044989597671426016139339351365034306751209967546155101893167916606772148699136 : ℝ) : EReal)
  | "cd5" => some ((4285885432447850806795539732780371053641719711369386726444326143948885988799766387406208249070796766913590324622859351451131425550999111956081481651926633468315746942809436970562242817583677441 / 4562440617622195218641171605700291324893228507248559930579192517899275167208677386505912811317371399778642309573594407310688704721375437998252661319722214188251994674360264950082874192246603776 : ℝ) : EReal)
  | "cd6" => some ((81572153987103923835390548417188269936419197469302464419024158637365591627224861126040490809284806036336096283903811333678792108885610133283962109817091550254355567618599879494019434091716747322461432755836026881 / 84162174424773976115855838126082058648805436845170781751972494449099714468753293153818664580441415219631727501698851483408310916002940861810045036330430093599283578738055113571066620126149163476340692027772502016 : ℝ) : EReal)
  | "cd7" => some ((1528445614500468580904863319900517172549706560844310158821371941711840963764572884935763729912498388873465083893773449534099309434758623900714817478936972427490943563436187267727048708782487153323703665819266461767256259918212890625 / 1552518092300708935148979488462502555256886017116696611139052038026050952686376886330878408828646477950487730697131073206171580044114814391444287275041181139204454976020849905550265285631598444825262999193716468750892846853816057856 : ℝ) : EReal)
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | "lg4" => some ((Real.log (511 / 512) : ℝ) : EReal)
  | "lg5" => some ((Real.log (1023 / 1024) : ℝ) : EReal)
  | "lg6" => some ((Real.log (2047 / 2048) : ℝ) : EReal)
  | "lg7" => some ((Real.log (4095 / 4096) : ℝ) : EReal)
  | _ => none
-- ==== RetRefIdeal.lean ====
abbrev S4x2048x8320 : Shape := ⟨3, ![4, 2048, 8320]⟩
abbrev S4x2048x64 : Shape := ⟨3, ![4, 2048, 64]⟩
abbrev S1024 : Shape := ⟨1, ![1024]⟩
abbrev S4x2048x1x64 : Shape := ⟨4, ![4, 2048, 1, 64]⟩
abbrev S4x2048x4096 : Shape := ⟨3, ![4, 2048, 4096]⟩
abbrev S4x2048x1024 : Shape := ⟨3, ![4, 2048, 1024]⟩
abbrev S4x2048x8x128 : Shape := ⟨4, ![4, 2048, 8, 128]⟩
abbrev S4x2048x8x64 : Shape := ⟨4, ![4, 2048, 8, 64]⟩
abbrev S4x8x2048x128 : Shape := ⟨4, ![4, 8, 2048, 128]⟩
abbrev S_ : Shape := ⟨0, ![]⟩
abbrev S8 : Shape := ⟨1, ![8]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S8x1 : Shape := ⟨2, ![8, 1]⟩
abbrev S8x64 : Shape := ⟨2, ![8, 64]⟩
abbrev S8x64x1 : Shape := ⟨3, ![8, 64, 1]⟩
abbrev S4x8x32x64x128 : Shape := ⟨5, ![4, 8, 32, 64, 128]⟩
abbrev S32x4x8x64x128 : Shape := ⟨5, ![32, 4, 8, 64, 128]⟩
abbrev S32x4x8x64x64 : Shape := ⟨5, ![32, 4, 8, 64, 64]⟩
abbrev S1x1x8x64x64 : Shape := ⟨5, ![1, 1, 8, 64, 64]⟩
abbrev S1x1x8x64x1 : Shape := ⟨5, ![1, 1, 8, 64, 1]⟩
abbrev S32x4x8x128x128 : Shape := ⟨5, ![32, 4, 8, 128, 128]⟩
abbrev S4x8x128x128 : Shape := ⟨4, ![4, 8, 128, 128]⟩
abbrev S1x4x8x128x128 : Shape := ⟨5, ![1, 4, 8, 128, 128]⟩
abbrev S1x8x1x1 : Shape := ⟨4, ![1, 8, 1, 1]⟩
abbrev S4x2048x8 : Shape := ⟨3, ![4, 2048, 8]⟩
abbrev S4x2048x8x1 : Shape := ⟨4, ![4, 2048, 8, 1]⟩
abbrev S1x1x1024 : Shape := ⟨3, ![1, 1, 1024]⟩

abbrev nBuf : Space → Nat
  | .hbm => 195
  | .vmem => 0
  | .smem => 0
  | _ => 0

abbrev hbmTy0_0 (i : Nat) : BufTy := match i % 128 with
  | 0 => ⟨S4x2048x8320, .f32⟩
  | 1 => ⟨S4x2048x64, .f32⟩
  | 2 => ⟨S4x2048x64, .f32⟩
  | 3 => ⟨S1024, .f32⟩
  | 4 => ⟨S4x2048x1x64, .f32⟩
  | 5 => ⟨S4x2048x1x64, .f32⟩
  | 6 => ⟨S4x2048x4096, .f32⟩
  | 7 => ⟨S4x2048x1024, .f32⟩
  | 8 => ⟨S4x2048x1024, .f32⟩
  | 9 => ⟨S4x2048x1024, .f32⟩
  | 10 => ⟨S4x2048x1024, .f32⟩
  | 11 => ⟨S4x2048x8x128, .f32⟩
  | 12 => ⟨S4x2048x8x64, .f32⟩
  | 13 => ⟨S4x2048x8x64, .f32⟩
  | 14 => ⟨S4x2048x8x64, .f32⟩
  | 15 => ⟨S4x2048x8x64, .f32⟩
  | 16 => ⟨S4x2048x8x64, .f32⟩
  | 17 => ⟨S4x2048x8x64, .f32⟩
  | 18 => ⟨S4x2048x8x64, .f32⟩
  | 19 => ⟨S4x2048x8x64, .f32⟩
  | 20 => ⟨S4x2048x8x64, .f32⟩
  | 21 => ⟨S4x2048x8x64, .f32⟩
  | 22 => ⟨S4x2048x8x64, .f32⟩
  | 23 => ⟨S4x2048x8x64, .f32⟩
  | 24 => ⟨S4x2048x8x128, .f32⟩
  | 25 => ⟨S4x8x2048x128, .f32⟩
  | 26 => ⟨S4x2048x8x128, .f32⟩
  | 27 => ⟨S4x2048x8x64, .f32⟩
  | 28 => ⟨S4x2048x8x64, .f32⟩
  | 29 => ⟨S4x2048x8x64, .f32⟩
  | 30 => ⟨S4x2048x8x64, .f32⟩
  | 31 => ⟨S4x2048x8x64, .f32⟩
  | 32 => ⟨S4x2048x8x64, .f32⟩
  | 33 => ⟨S4x2048x8x64, .f32⟩
  | 34 => ⟨S4x2048x8x64, .f32⟩
  | 35 => ⟨S4x2048x8x64, .f32⟩
  | 36 => ⟨S4x2048x8x64, .f32⟩
  | 37 => ⟨S4x2048x8x64, .f32⟩
  | 38 => ⟨S4x2048x8x64, .f32⟩
  | 39 => ⟨S4x2048x8x128, .f32⟩
  | 40 => ⟨S4x8x2048x128, .f32⟩
  | 41 => ⟨S_, .f32⟩
  | 42 => ⟨S4x8x2048x128, .f32⟩
  | 43 => ⟨S4x8x2048x128, .f32⟩
  | 44 => ⟨S4x2048x8x128, .f32⟩
  | 45 => ⟨S4x8x2048x128, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S8, .f32⟩
  | 54 => ⟨S8, .f32⟩
  | 55 => ⟨S64, .f32⟩
  | 56 => ⟨S64x1, .f32⟩
  | 57 => ⟨S1x64, .f32⟩
  | 58 => ⟨S64x64, .f32⟩
  | 59 => ⟨S64x64, .f32⟩
  | 60 => ⟨S64x64, .i1⟩
  | 61 => ⟨S64x1, .f32⟩
  | 62 => ⟨S1x64, .f32⟩
  | 63 => ⟨S64x64, .f32⟩
  | 64 => ⟨S64x64, .f32⟩
  | 65 => ⟨S64x64, .f32⟩
  | 66 => ⟨S_, .f32⟩
  | 67 => ⟨S_, .f32⟩
  | 68 => ⟨S64x64, .f32⟩
  | 69 => ⟨S64x64, .f32⟩
  | 70 => ⟨S8x1x1, .f32⟩
  | 71 => ⟨S1x64x64, .f32⟩
  | 72 => ⟨S8x64x64, .f32⟩
  | 73 => ⟨S8x64x64, .f32⟩
  | 74 => ⟨S8x64x64, .f32⟩
  | 75 => ⟨S8x64x64, .f32⟩
  | 76 => ⟨S_, .f32⟩
  | 77 => ⟨S_, .f32⟩
  | 78 => ⟨S8x64x64, .i1⟩
  | 79 => ⟨S8x64x64, .f32⟩
  | 80 => ⟨S8x64x64, .f32⟩
  | 81 => ⟨S_, .f32⟩
  | 82 => ⟨S64, .f32⟩
  | 83 => ⟨S64, .f32⟩
  | 84 => ⟨S8x1, .f32⟩
  | 85 => ⟨S1x64, .f32⟩
  | 86 => ⟨S8x64, .f32⟩
  | 87 => ⟨S8x64, .f32⟩
  | 88 => ⟨S8x64, .f32⟩
  | 89 => ⟨S8x64, .f32⟩
  | 90 => ⟨S8x64x1, .f32⟩
  | 91 => ⟨S_, .f32⟩
  | 92 => ⟨S64, .f32⟩
  | 93 => ⟨S64, .f32⟩
  | 94 => ⟨S8x1, .f32⟩
  | 95 => ⟨S1x64, .f32⟩
  | 96 => ⟨S8x64, .f32⟩
  | 97 => ⟨S8x64, .f32⟩
  | 98 => ⟨S8x64, .f32⟩
  | 99 => ⟨S8x64, .f32⟩
  | 100 => ⟨S8x64x1, .f32⟩
  | 101 => ⟨S_, .f32⟩
  | 102 => ⟨S8, .f32⟩
  | 103 => ⟨S8, .f32⟩
  | 104 => ⟨S8, .f32⟩
  | 105 => ⟨S8x1x1, .f32⟩
  | 106 => ⟨S4x8x32x64x128, .f32⟩
  | 107 => ⟨S32x4x8x64x128, .f32⟩
  | 108 => ⟨S4x8x32x64x128, .f32⟩
  | 109 => ⟨S32x4x8x64x128, .f32⟩
  | 110 => ⟨S4x8x32x64x128, .f32⟩
  | 111 => ⟨S32x4x8x64x128, .f32⟩
  | 112 => ⟨S32x4x8x64x64, .f32⟩
  | 113 => ⟨S1x1x8x64x64, .f32⟩
  | 114 => ⟨S32x4x8x64x64, .f32⟩
  | 115 => ⟨S32x4x8x64x64, .f32⟩
  | 116 => ⟨S32x4x8x64x128, .f32⟩
  | 117 => ⟨S1x1x8x64x1, .f32⟩
  | 118 => ⟨S32x4x8x64x128, .f32⟩
  | 119 => ⟨S32x4x8x64x128, .f32⟩
  | 120 => ⟨S32x4x8x128x128, .f32⟩
  | 121 => ⟨S_, .f32⟩
  | 122 => ⟨S4x8x128x128, .f32⟩
  | 123 => ⟨S_, .f32⟩
  | 124 => ⟨S32x4x8x128x128, .f32⟩
  | 125 => ⟨S_, .i32⟩
  | 126 => ⟨S32x4x8x128x128, .f32⟩
  | 127 => ⟨S8x1x1, .f32⟩
  | _ => ⟨S4x2048x8320, .f32⟩

abbrev hbmTy0_1 (i : Nat) : BufTy := match i % 128 with
  | 0 => ⟨S_, .i32⟩
  | 1 => ⟨S4x8x128x128, .f32⟩
  | 2 => ⟨S32x4x8x128x128, .f32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S1x4x8x128x128, .f32⟩
  | 10 => ⟨S4x8x128x128, .f32⟩
  | 11 => ⟨S1x8x1x1, .f32⟩
  | 12 => ⟨S4x8x128x128, .f32⟩
  | 13 => ⟨S4x8x128x128, .f32⟩
  | 14 => ⟨S4x8x128x128, .f32⟩
  | 15 => ⟨S1x4x8x128x128, .f32⟩
  | 16 => ⟨S_, .i32⟩
  | 17 => ⟨S_, .i32⟩
  | 18 => ⟨S_, .i32⟩
  | 19 => ⟨S_, .i32⟩
  | 20 => ⟨S32x4x8x128x128, .f32⟩
  | 21 => ⟨S_, .i32⟩
  | 22 => ⟨S_, .i32⟩
  | 23 => ⟨S32x4x8x64x128, .f32⟩
  | 24 => ⟨S1x1x8x64x1, .f32⟩
  | 25 => ⟨S32x4x8x64x128, .f32⟩
  | 26 => ⟨S32x4x8x64x128, .f32⟩
  | 27 => ⟨S32x4x8x64x128, .f32⟩
  | 28 => ⟨S4x8x32x64x128, .f32⟩
  | 29 => ⟨S4x8x2048x128, .f32⟩
  | 30 => ⟨S4x2048x8x128, .f32⟩
  | 31 => ⟨S_, .f32⟩
  | 32 => ⟨S4x2048x8, .f32⟩
  | 33 => ⟨S4x2048x8x1, .f32⟩
  | 34 => ⟨S_, .f32⟩
  | 35 => ⟨S4x2048x8x1, .f32⟩
  | 36 => ⟨S4x2048x8x1, .f32⟩
  | 37 => ⟨S4x2048x8x128, .f32⟩
  | 38 => ⟨S4x2048x8x128, .f32⟩
  | 39 => ⟨S4x2048x8x128, .f32⟩
  | 40 => ⟨S_, .f32⟩
  | 41 => ⟨S4x2048x8, .f32⟩
  | 42 => ⟨S4x2048x8x1, .f32⟩
  | 43 => ⟨S_, .f32⟩
  | 44 => ⟨S4x2048x8x1, .f32⟩
  | 45 => ⟨S4x2048x8x1, .f32⟩
  | 46 => ⟨S_, .f32⟩
  | 47 => ⟨S4x2048x8x1, .f32⟩
  | 48 => ⟨S4x2048x8x1, .f32⟩
  | 49 => ⟨S4x2048x8x1, .f32⟩
  | 50 => ⟨S4x2048x8x128, .f32⟩
  | 51 => ⟨S4x2048x8x128, .f32⟩
  | 52 => ⟨S4x2048x1024, .f32⟩
  | 53 => ⟨S1x1x1024, .f32⟩
  | 54 => ⟨S4x2048x1024, .f32⟩
  | 55 => ⟨S4x2048x1024, .f32⟩
  | 56 => ⟨S4x2048x1024, .f32⟩
  | 57 => ⟨S4x2048x1024, .f32⟩
  | 58 => ⟨S_, .f32⟩
  | 59 => ⟨S4x2048x1024, .f32⟩
  | 60 => ⟨S4x2048x1024, .f32⟩
  | 61 => ⟨S_, .f32⟩
  | 62 => ⟨S4x2048x1024, .f32⟩
  | 63 => ⟨S4x2048x1024, .f32⟩
  | 64 => ⟨S4x2048x1024, .f32⟩
  | 65 => ⟨S4x2048x1024, .f32⟩
  | 66 => ⟨S4x2048x1024, .bf16⟩
  | _ => ⟨S4x2048x8320, .f32⟩

abbrev hbmTy (i : Nat) : BufTy := match i / 128 with
  | 0 => hbmTy0_0 i
  | 1 => hbmTy0_1 i
  | _ => ⟨S4x2048x8320, .f32⟩

abbrev bufTy : (tb : Table) → Fin (tcTables nBuf tb) → BufTy
  | .hbm, ⟨i, _⟩ => hbmTy i
  | _, _ => ⟨S4x2048x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_0 : Ref sig .tc := ⟨.hbm, 47, rfl⟩
abbrev main_v42 : Ref sig .tc := ⟨.hbm, 48, rfl⟩
abbrev main_v43 : Ref sig .tc := ⟨.hbm, 49, rfl⟩
abbrev main_cst_1 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_cst_2 : Ref sig .tc := ⟨.hbm, 66, rfl⟩
abbrev main_call0_v0 : Ref sig .tc := ⟨.hbm, 67, rfl⟩
abbrev main_call0_v1 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v66 : Ref sig .tc := ⟨.hbm, 80, rfl⟩
abbrev main_cst_4 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_5 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_6 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_cst_7 : Ref sig .tc := ⟨.hbm, 121, rfl⟩
abbrev main_v104 : Ref sig .tc := ⟨.hbm, 122, rfl⟩
abbrev main_cst_8 : Ref sig .tc := ⟨.hbm, 123, rfl⟩
abbrev main_v105 : Ref sig .tc := ⟨.hbm, 124, rfl⟩
abbrev main_c : Ref sig .tc := ⟨.hbm, 125, rfl⟩
abbrev main_v106_0 : Ref sig .tc := ⟨.hbm, 126, rfl⟩
abbrev main_v106_1 : Ref sig .tc := ⟨.hbm, 127, rfl⟩
abbrev main_v106_2 : Ref sig .tc := ⟨.hbm, 128, rfl⟩
abbrev main_v106_3 : Ref sig .tc := ⟨.hbm, 129, rfl⟩
abbrev main_v106_4 : Ref sig .tc := ⟨.hbm, 130, rfl⟩
abbrev main_while0c_c_18 : Ref sig .tc := ⟨.hbm, 131, rfl⟩
abbrev main_while0c_v138 : Ref sig .tc := ⟨.hbm, 132, rfl⟩
abbrev main_while0b_call2_c : Ref sig .tc := ⟨.hbm, 133, rfl⟩
abbrev main_while0b_call2_c_0 : Ref sig .tc := ⟨.hbm, 134, rfl⟩
abbrev main_while0b_call2_c_1 : Ref sig .tc := ⟨.hbm, 135, rfl⟩
abbrev main_while0b_call2_c_2 : Ref sig .tc := ⟨.hbm, 136, rfl⟩
abbrev main_while0b_call2_v0 : Ref sig .tc := ⟨.hbm, 137, rfl⟩
abbrev main_while0b_v138 : Ref sig .tc := ⟨.hbm, 138, rfl⟩
abbrev main_while0b_v139 : Ref sig .tc := ⟨.hbm, 139, rfl⟩
abbrev main_while0b_v140 : Ref sig .tc := ⟨.hbm, 140, rfl⟩
abbrev main_while0b_v141 : Ref sig .tc := ⟨.hbm, 141, rfl⟩
abbrev main_while0b_v142 : Ref sig .tc := ⟨.hbm, 142, rfl⟩
abbrev main_while0b_call3_v0 : Ref sig .tc := ⟨.hbm, 143, rfl⟩
abbrev main_while0b_call3_c : Ref sig .tc := ⟨.hbm, 144, rfl⟩
abbrev main_while0b_call3_c_0 : Ref sig .tc := ⟨.hbm, 145, rfl⟩
abbrev main_while0b_call3_c_1 : Ref sig .tc := ⟨.hbm, 146, rfl⟩
abbrev main_while0b_call3_c_2 : Ref sig .tc := ⟨.hbm, 147, rfl⟩
abbrev main_while0b_v143 : Ref sig .tc := ⟨.hbm, 148, rfl⟩
abbrev main_while0b_c_18 : Ref sig .tc := ⟨.hbm, 149, rfl⟩
abbrev main_while0b_v144 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_9 : Ref sig .tc := ⟨.hbm, 159, rfl⟩
abbrev main_v115 : Ref sig .tc := ⟨.hbm, 160, rfl⟩
abbrev main_v116 : Ref sig .tc := ⟨.hbm, 161, rfl⟩
abbrev main_cst_10 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_11 : Ref sig .tc := ⟨.hbm, 168, rfl⟩
abbrev main_v122 : Ref sig .tc := ⟨.hbm, 169, rfl⟩
abbrev main_v123 : Ref sig .tc := ⟨.hbm, 170, rfl⟩
abbrev main_cst_12 : Ref sig .tc := ⟨.hbm, 171, rfl⟩
abbrev main_v124 : Ref sig .tc := ⟨.hbm, 172, rfl⟩
abbrev main_v125 : Ref sig .tc := ⟨.hbm, 173, rfl⟩
abbrev main_cst_13 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_call4_v0 : Ref sig .tc := ⟨.hbm, 184, rfl⟩
abbrev main_call4_v1 : Ref sig .tc := ⟨.hbm, 185, rfl⟩
abbrev main_call4_cst : Ref sig .tc := ⟨.hbm, 186, rfl⟩
abbrev main_call4_v2 : Ref sig .tc := ⟨.hbm, 187, rfl⟩
abbrev main_call4_v3 : Ref sig .tc := ⟨.hbm, 188, rfl⟩
abbrev main_call4_cst_0 : Ref sig .tc := ⟨.hbm, 189, rfl⟩
abbrev main_call4_v4 : Ref sig .tc := ⟨.hbm, 190, rfl⟩
abbrev main_call4_v5 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩

abbrev nD : Nat := 1
abbrev τ : Topo := Topo.v7x

variable {F : FTy → Type} [FloatOps F]

abbrev main_while0_count : Scf.Loop 32 := ⟨0#32, 32#32, 1#32⟩
-- ==== Up.lean ====
abbrev S8192x2048 : Shape := ⟨2, ![8192, 2048]⟩
abbrev S2048x5632 : Shape := ⟨2, ![2048, 5632]⟩
abbrev S8192x5632 : Shape := ⟨2, ![8192, 5632]⟩
abbrev S512x2048 : Shape := ⟨2, ![512, 2048]⟩
abbrev S2048x1408 : Shape := ⟨2, ![2048, 1408]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S512x1408, .bf16⟩
  | .local _ .vmem, ⟨7, _⟩ => ⟨S512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S8192x2048, .f32⟩
  | .hbm, ⟨4, _⟩ => ⟨S2048x5632, .f32⟩
  | .hbm, ⟨5, _⟩ => ⟨S8192x5632, .f32⟩
  | .hbm, ⟨6, _⟩ => ⟨S8192x2048, .f32⟩
  | .hbm, ⟨7, _⟩ => ⟨S2048x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S512x1408 : Shape := ⟨2, ![512, 1408]⟩
abbrev S1408x2048 : Shape := ⟨2, ![1408, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjAb.lean ====
abbrev S8192x2048 : Shape := ⟨2, ![8192, 2048]⟩
abbrev S2048x7680 : Shape := ⟨2, ![2048, 7680]⟩
abbrev S8192x7680 : Shape := ⟨2, ![8192, 7680]⟩
abbrev S512x2048 : Shape := ⟨2, ![512, 2048]⟩
abbrev S2048x1280 : Shape := ⟨2, ![2048, 1280]⟩
abbrev S512x1280 : Shape := ⟨2, ![512, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x7680, .bf16⟩
  | .hbm, ⟨2, _⟩ => ⟨S8192x7680, .f32⟩
  | .local _ .vmem, ⟨0, _⟩ => ⟨S512x2048, .bf16⟩
  | .local _ .vmem, ⟨1, _⟩ => ⟨S512x2048, .bf16⟩
  | .local _ .vmem, ⟨2, _⟩ => ⟨S2048x1280, .bf16⟩
  | .local _ .vmem, ⟨3, _⟩ => ⟨S2048x1280, .bf16⟩
  | .local _ .vmem, ⟨4, _⟩ => ⟨S512x1280, .f32⟩
  | .local _ .vmem, ⟨5, _⟩ => ⟨S512x1280, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAbRefIdeal.lean ====
abbrev S8192x2048 : Shape := ⟨2, ![8192, 2048]⟩
abbrev S2048x7680 : Shape := ⟨2, ![2048, 7680]⟩
abbrev S8192x7680 : Shape := ⟨2, ![8192, 7680]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7680, .bf16⟩
  | .hbm, ⟨2, _⟩ => ⟨S8192x2048, .f32⟩
  | .hbm, ⟨3, _⟩ => ⟨S2048x7680, .f32⟩
  | .hbm, ⟨4, _⟩ => ⟨S8192x7680, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjCd.lean ====
abbrev S8192x2048 : Shape := ⟨2, ![8192, 2048]⟩
abbrev S2048x8320 : Shape := ⟨2, ![2048, 8320]⟩
abbrev S8192x8320 : Shape := ⟨2, ![8192, 8320]⟩
abbrev S512x2048 : Shape := ⟨2, ![512, 2048]⟩
abbrev S2048x1664 : Shape := ⟨2, ![2048, 1664]⟩
abbrev S512x1664 : Shape := ⟨2, ![512, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x8320, .bf16⟩
  | .hbm, ⟨2, _⟩ => ⟨S8192x8320, .f32⟩
  | .local _ .vmem, ⟨0, _⟩ => ⟨S512x2048, .bf16⟩
  | .local _ .vmem, ⟨1, _⟩ => ⟨S512x2048, .bf16⟩
  | .local _ .vmem, ⟨2, _⟩ => ⟨S2048x1664, .bf16⟩
  | .local _ .vmem, ⟨3, _⟩ => ⟨S2048x1664, .bf16⟩
  | .local _ .vmem, ⟨4, _⟩ => ⟨S512x1664, .f32⟩
  | .local _ .vmem, ⟨5, _⟩ => ⟨S512x1664, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjCdRefIdeal.lean ====
abbrev S8192x2048 : Shape := ⟨2, ![8192, 2048]⟩
abbrev S2048x8320 : Shape := ⟨2, ![2048, 8320]⟩
abbrev S8192x8320 : Shape := ⟨2, ![8192, 8320]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8320, .bf16⟩
  | .hbm, ⟨2, _⟩ => ⟨S8192x2048, .f32⟩
  | .hbm, ⟨3, _⟩ => ⟨S2048x8320, .f32⟩
  | .hbm, ⟨4, _⟩ => ⟨S8192x8320, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LastNorm.lean ====
abbrev S4x2048x2048 : Shape := ⟨3, ![4, 2048, 2048]⟩
abbrev S4x4x6144 : Shape := ⟨3, ![4, 4, 6144]⟩
abbrev S2048 : Shape := ⟨1, ![2048]⟩
abbrev S16x1x6144 : Shape := ⟨3, ![16, 1, 6144]⟩
abbrev S1x2048 : Shape := ⟨2, ![1, 2048]⟩
abbrev S1x256x2048 : Shape := ⟨3, ![1, 256, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x4x6144, .f32⟩
  | .hbm, ⟨3, _⟩ => ⟨S2048, .f32⟩
  | .hbm, ⟨4, _⟩ => ⟨S2048, .f32⟩
  | .hbm, ⟨5, _⟩ => ⟨S16x1x6144, .f32⟩
  | .hbm, ⟨6, _⟩ => ⟨S1x2048, .f32⟩
  | .hbm, ⟨7, _⟩ => ⟨S1x2048, .f32⟩
  | .hbm, ⟨8, _⟩ => ⟨S4x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048, .f32⟩
  | .local _ .vmem, ⟨8, _⟩ => ⟨S1x256x2048, .f32⟩
  | .local _ .vmem, ⟨9, _⟩ => ⟨S1x256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c2_i32 : BitVec 32 := 2#32
  let c0_i32_0 : BitVec 32 := 0#32
  ![v0.toNat, c0_i32.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LastNormRefIdeal.lean ====
abbrev S4x2048x2048 : Shape := ⟨3, ![4, 2048, 2048]⟩
abbrev S4x4x6144 : Shape := ⟨3, ![4, 4, 6144]⟩
abbrev S2048 : Shape := ⟨1, ![2048]⟩
abbrev S1x4x6144 : Shape := ⟨3, ![1, 4, 6144]⟩
abbrev S4x6144 : Shape := ⟨2, ![4, 6144]⟩
abbrev S4x1x6144 : Shape := ⟨3, ![4, 1, 6144]⟩
abbrev S4x1x2048 : Shape := ⟨3, ![4, 1, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x4x6144, .f32⟩
  | .hbm, ⟨3, _⟩ => ⟨S2048, .f32⟩
  | .hbm, ⟨4, _⟩ => ⟨S2048, .f32⟩
  | .hbm, ⟨5, _⟩ => ⟨S1x4x6144, .f32⟩
  | .hbm, ⟨6, _⟩ => ⟨S4x6144, .f32⟩
  | .hbm, ⟨7, _⟩ => ⟨S4x1x6144, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x1x2048, .f32⟩
  | .hbm, ⟨16, _⟩ => ⟨S4x1x2048, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S1x1x2048, .f32⟩
  | .hbm, ⟨44, _⟩ => ⟨S4x2048x2048, .f32⟩
  | .hbm, ⟨45, _⟩ => ⟨S4x2048x2048, .f32⟩
  | .hbm, ⟨46, _⟩ => ⟨S1x1x2048, .f32⟩
  | .hbm, ⟨47, _⟩ => ⟨S4x2048x2048, .f32⟩
  | .hbm, ⟨48, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== NextNorm.lean ====
abbrev S4x2048x2048 : Shape := ⟨3, ![4, 2048, 2048]⟩
abbrev S4x4x6144 : Shape := ⟨3, ![4, 4, 6144]⟩
abbrev S2048 : Shape := ⟨1, ![2048]⟩
abbrev S16x1x6144 : Shape := ⟨3, ![16, 1, 6144]⟩
abbrev S1x2048 : Shape := ⟨2, ![1, 2048]⟩
abbrev S1x256x2048 : Shape := ⟨3, ![1, 256, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x4x6144, .f32⟩
  | .hbm, ⟨3, _⟩ => ⟨S2048, .f32⟩
  | .hbm, ⟨4, _⟩ => ⟨S2048, .f32⟩
  | .hbm, ⟨5, _⟩ => ⟨S16x1x6144, .f32⟩
  | .hbm, ⟨6, _⟩ => ⟨S1x2048, .f32⟩
  | .hbm, ⟨7, _⟩ => ⟨S1x2048, .f32⟩
  | .hbm, ⟨8, _⟩ => ⟨S4x2048x2048, .f32⟩
  | .hbm, ⟨9, _⟩ => ⟨S4x2048x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .bf16⟩
  | .local _ .vmem, ⟨15, _⟩ => ⟨S1x256x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c2_i32 : BitVec 32 := 2#32
  let c0_i32_1 : BitVec 32 := 0#32
  ![v0.toNat, c0_i32_0.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c1_i32 : BitVec 32 := 1#32
  let c0_i32_0 : BitVec 32 := 0#32
  ![v0.toNat, c0_i32.toNat, c1_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== NextNormRefIdeal.lean ====
abbrev S4x2048x2048 : Shape := ⟨3, ![4, 2048, 2048]⟩
abbrev S4x4x6144 : Shape := ⟨3, ![4, 4, 6144]⟩
abbrev S2048 : Shape := ⟨1, ![2048]⟩
abbrev S1x4x6144 : Shape := ⟨3, ![1, 4, 6144]⟩
abbrev S4x6144 : Shape := ⟨2, ![4, 6144]⟩
abbrev S4x1x6144 : Shape := ⟨3, ![4, 1, 6144]⟩
abbrev S4x1x2048 : Shape := ⟨3, ![4, 1, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 63
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x4x6144, .f32⟩
  | .hbm, ⟨3, _⟩ => ⟨S2048, .f32⟩
  | .hbm, ⟨4, _⟩ => ⟨S2048, .f32⟩
  | .hbm, ⟨5, _⟩ => ⟨S1x4x6144, .f32⟩
  | .hbm, ⟨6, _⟩ => ⟨S4x6144, .f32⟩
  | .hbm, ⟨7, _⟩ => ⟨S4x1x6144, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x1x2048, .f32⟩
  | .hbm, ⟨16, _⟩ => ⟨S4x1x2048, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S1x1x2048, .f32⟩
  | .hbm, ⟨44, _⟩ => ⟨S4x2048x2048, .f32⟩
  | .hbm, ⟨45, _⟩ => ⟨S4x2048x2048, .f32⟩
  | .hbm, ⟨46, _⟩ => ⟨S1x1x2048, .f32⟩
  | .hbm, ⟨47, _⟩ => ⟨S4x2048x2048, .f32⟩
  | .hbm, ⟨48, _⟩ => ⟨S4x2048x2048, .f32⟩
  | .hbm, ⟨49, _⟩ => ⟨S1x4x6144, .f32⟩
  | .hbm, ⟨50, _⟩ => ⟨S4x6144, .f32⟩
  | .hbm, ⟨51, _⟩ => ⟨S4x1x6144, .f32⟩
  | .hbm, ⟨52, _⟩ => ⟨S4x1x2048, .f32⟩
  | .hbm, ⟨53, _⟩ => ⟨S4x1x2048, .f32⟩
  | .hbm, ⟨54, _⟩ => ⟨S4x1x2048, .f32⟩
  | .hbm, ⟨55, _⟩ => ⟨S_, .f32⟩
  | .hbm, ⟨56, _⟩ => ⟨S4x1x2048, .f32⟩
  | .hbm, ⟨57, _⟩ => ⟨S4x1x2048, .f32⟩
  | .hbm, ⟨58, _⟩ => ⟨S4x2048x2048, .f32⟩
  | .hbm, ⟨59, _⟩ => ⟨S4x2048x2048, .f32⟩
  | .hbm, ⟨60, _⟩ => ⟨S4x2048x2048, .f32⟩
  | .hbm, ⟨61, _⟩ => ⟨S4x2048x2048, .f32⟩
  | .hbm, ⟨62, _⟩ => ⟨S4x2048x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Modulate.lean ====
abbrev S4x2048x2048 : Shape := ⟨3, ![4, 2048, 2048]⟩
abbrev S4x4x6144 : Shape := ⟨3, ![4, 4, 6144]⟩
abbrev S16x1x6144 : Shape := ⟨3, ![16, 1, 6144]⟩
abbrev S1x512x2048 : Shape := ⟨3, ![1, 512, 2048]⟩
abbrev S1x1x2048 : Shape := ⟨3, ![1, 1, 2048]⟩
abbrev S512x2048 : Shape := ⟨2, ![512, 2048]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S4x4x6144, .f32⟩
  | .hbm, ⟨2, _⟩ => ⟨S16x1x6144, .f32⟩
  | .hbm, ⟨3, _⟩ => ⟨S4x2048x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x512x2048, .bf16⟩
  | .local _ .vmem, ⟨7, _⟩ => ⟨S1x512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c1_i32 : BitVec 32 := 1#32
  let c0_i32_1 : BitVec 32 := 0#32
  ![v0.toNat, c0_i32_0.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulateRefIdeal.lean ====
abbrev S4x2048x2048 : Shape := ⟨3, ![4, 2048, 2048]⟩
abbrev S4x4x6144 : Shape := ⟨3, ![4, 4, 6144]⟩
abbrev S1x4x6144 : Shape := ⟨3, ![1, 4, 6144]⟩
abbrev S4x6144 : Shape := ⟨2, ![4, 6144]⟩
abbrev S4x1x6144 : Shape := ⟨3, ![4, 1, 6144]⟩
abbrev S4x1x2048 : Shape := ⟨3, ![4, 1, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x4x6144, .f32⟩
  | .hbm, ⟨2, _⟩ => ⟨S1x4x6144, .f32⟩
  | .hbm, ⟨3, _⟩ => ⟨S4x6144, .f32⟩
  | .hbm, ⟨4, _⟩ => ⟨S4x1x6144, .f32⟩
  | .hbm, ⟨5, _⟩ => ⟨S4x1x2048, .f32⟩
  | .hbm, ⟨6, _⟩ => ⟨S4x1x2048, .f32⟩
  | .hbm, ⟨7, _⟩ => ⟨S4x1x2048, .f32⟩
  | .hbm, ⟨8, _⟩ => ⟨S_, .f32⟩
  | .hbm, ⟨9, _⟩ => ⟨S4x1x2048, .f32⟩
  | .hbm, ⟨10, _⟩ => ⟨S4x1x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S4x2048x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Ada.lean ====
abbrev S4x2048 : Shape := ⟨2, ![4, 2048]⟩
abbrev S2x2x2048x6144 : Shape := ⟨4, ![2, 2, 2048, 6144]⟩
abbrev S2x2x6144 : Shape := ⟨3, ![2, 2, 6144]⟩
abbrev S4x2048x6144 : Shape := ⟨3, ![4, 2048, 6144]⟩
abbrev S4x1x6144 : Shape := ⟨3, ![4, 1, 6144]⟩
abbrev S4x4x6144 : Shape := ⟨3, ![4, 4, 6144]⟩
abbrev S1x2048x1536 : Shape := ⟨3, ![1, 2048, 1536]⟩
abbrev S1x1x1536 : Shape := ⟨3, ![1, 1, 1536]⟩
abbrev S1x4x1536 : Shape := ⟨3, ![1, 4, 1536]⟩
abbrev S2048x1536 : Shape := ⟨2, ![2048, 1536]⟩
abbrev S4x1536 : Shape := ⟨2, ![4, 1536]⟩
abbrev S1x1536 : Shape := ⟨2, ![1, 1536]⟩

abbrev nBuf : Space → Nat
  | .hbm => 6
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2x2x2048x6144, .f32⟩
  | .hbm, ⟨2, _⟩ => ⟨S2x2x6144, .f32⟩
  | .hbm, ⟨3, _⟩ => ⟨S4x2048x6144, .f32⟩
  | .hbm, ⟨4, _⟩ => ⟨S4x1x6144, .f32⟩
  | .hbm, ⟨5, _⟩ => ⟨S4x4x6144, .f32⟩
  | .local _ .vmem, ⟨0, _⟩ => ⟨S4x2048, .f32⟩
  | .local _ .vmem, ⟨1, _⟩ => ⟨S1x2048x1536, .f32⟩
  | .local _ .vmem, ⟨2, _⟩ => ⟨S1x2048x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x4x1536, .f32⟩
  | .local _ .vmem, ⟨6, _⟩ => ⟨S1x4x1536, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S4x2048 : Shape := ⟨2, ![4, 2048]⟩
abbrev S2x2x2048x6144 : Shape := ⟨4, ![2, 2, 2048, 6144]⟩
abbrev S2x2x6144 : Shape := ⟨3, ![2, 2, 6144]⟩
abbrev S4x2048x6144 : Shape := ⟨3, ![4, 2048, 6144]⟩
abbrev S4x1x6144 : Shape := ⟨3, ![4, 1, 6144]⟩
abbrev S_ : Shape := ⟨0, ![]⟩
abbrev S4x6144x4 : Shape := ⟨3, ![4, 6144, 4]⟩
abbrev S4x4x6144 : Shape := ⟨3, ![4, 4, 6144]⟩

abbrev nBuf : Space → Nat
  | .hbm => 18
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2x2x2048x6144, .f32⟩
  | .hbm, ⟨2, _⟩ => ⟨S2x2x6144, .f32⟩
  | .hbm, ⟨3, _⟩ => ⟨S4x2048x6144, .f32⟩
  | .hbm, ⟨4, _⟩ => ⟨S4x1x6144, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S_, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x6144x4, .f32⟩
  | .hbm, ⟨15, _⟩ => ⟨S4x4x6144, .f32⟩
  | .hbm, ⟨16, _⟩ => ⟨S4x4x6144, .f32⟩
  | .hbm, ⟨17, _⟩ => ⟨S4x4x6144, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Rope.lean ====
abbrev S4x2048 : Shape := ⟨2, ![4, 2048]⟩
abbrev S64 : Shape := ⟨1, ![64]⟩
abbrev S_ : Shape := ⟨0, ![]⟩
abbrev S128 : Shape := ⟨1, ![128]⟩
abbrev S1x128 : Shape := ⟨2, ![1, 128]⟩
abbrev S4x2048x1 : Shape := ⟨3, ![4, 2048, 1]⟩
abbrev S4x2048x128 : Shape := ⟨3, ![4, 2048, 128]⟩
abbrev S1x512x1 : Shape := ⟨3, ![1, 512, 1]⟩
abbrev S1x512x128 : Shape := ⟨3, ![1, 512, 128]⟩
abbrev S512x1 : Shape := ⟨2, ![512, 1]⟩
abbrev S512x128 : Shape := ⟨2, ![512, 128]⟩

abbrev nBuf : Space → Nat
  | .hbm => 14
  | .vmem => 7
  | .smem => 0
  | _ => 0

abbrev bufTy : (tb : Table) → Fin (tcTables nBuf tb) → BufTy
  | .hbm, ⟨0, _⟩ => ⟨S4x2048, .i32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S1x128, .f32⟩
  | .hbm, ⟨11, _⟩ => ⟨S4x2048x1, .i32⟩
  | .hbm, ⟨12, _⟩ => ⟨S4x2048x128, .f32⟩
  | .hbm, ⟨13, _⟩ => ⟨S4x2048x128, .f32⟩
  | .local _ .vmem, ⟨0, _⟩ => ⟨S1x512x1, .i32⟩
  | .local _ .vmem, ⟨1, _⟩ => ⟨S1x512x1, .i32⟩
  | .local _ .vmem, ⟨2, _⟩ => ⟨S1x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RopeRefIdeal.lean ====
abbrev S4x2048 : Shape := ⟨2, ![4, 2048]⟩
abbrev S64 : Shape := ⟨1, ![64]⟩
abbrev S_ : Shape := ⟨0, ![]⟩
abbrev S4x2048x1 : Shape := ⟨3, ![4, 2048, 1]⟩
abbrev S1x1x64 : Shape := ⟨3, ![1, 1, 64]⟩
abbrev S4x2048x64 : Shape := ⟨3, ![4, 2048, 64]⟩
abbrev S4x2048x128 : Shape := ⟨3, ![4, 2048, 128]⟩

abbrev nBuf : Space → Nat
  | .hbm => 20
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S4x2048, .f32⟩
  | .hbm, ⟨10, _⟩ => ⟨S4x2048x1, .f32⟩
  | .hbm, ⟨11, _⟩ => ⟨S1x1x64, .f32⟩
  | .hbm, ⟨12, _⟩ => ⟨S4x2048x64, .f32⟩
  | .hbm, ⟨13, _⟩ => ⟨S4x2048x64, .f32⟩
  | .hbm, ⟨14, _⟩ => ⟨S4x2048x64, .f32⟩
  | .hbm, ⟨15, _⟩ => ⟨S4x2048x64, .f32⟩
  | .hbm, ⟨16, _⟩ => ⟨S4x2048x64, .f32⟩
  | .hbm, ⟨17, _⟩ => ⟨S4x2048x128, .f32⟩
  | .hbm, ⟨18, _⟩ => ⟨S4x2048x64, .f32⟩
  | .hbm, ⟨19, _⟩ => ⟨S4x2048x128, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Proof.RetIdealRun.lean ====
module

public import proofs.«01_k».proof.Proof.Gen.RetIdeal.Frame.Runs
public import Idealize.ShloMosaic.Lib.Pipeline.ReadBack
public import Idealize.ShloMosaic.Lib.VecWindow

@[expose] public section

set_option maxRecDepth 16384

noncomputable section

namespace Cert.RetIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! What one call of the retention's body leaves: the block of its output and the running state, as functions of the
windows and of the state it starts from. Neither depends on what the output block held before. -/

/-- The running state a sequence begins with: zero. -/
def zeroState : Vec F S8x128x128 .f32 := k0_pay1

section
variable (c : Dev nD) (i : grid0.Coords)
  (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S8x128x128 .f32) (harg10 : arg10.IsWhole)

/-- What the stores of one trip leave does not depend on what the output block held before. -/
theorem trip_of_output (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty)
    (k : Fin k0_t1_loop.trips) (f f' : BufTy.Contents (Elt F) arg9.view.ty) (g : BufTy.Contents (Elt F) arg10.view.ty) :
    tripL_k0_t1 (F := F) Variants.none c none i arg2 harg2 arg3 harg3 arg4 harg4 arg5 harg5 arg6 harg6 arg7 harg7 arg8 harg8 arg9 harg9 arg10 harg10 X_arg2 X_arg3 X_arg4 X_arg5 X_arg6 X_arg7 X_arg8 k f g
      = tripL_k0_t1 (F := F) Variants.none c none i arg2 harg2 arg3 harg3 arg4 harg4 arg5 harg5 arg6 harg6 arg7 harg7 arg8 harg8 arg9 harg9 arg10 harg10 X_arg2 X_arg3 X_arg4 X_arg5 X_arg6 X_arg7 X_arg8 k f' g := by
  unfold tripL_k0_t1 trip_k0_t1
  dsimp only

/-- The stores of the first `n` trips of the loop over the four chunks of a block: into the output block and into the
    running state, when the windows hold `x0 … x6`, the output block `f` and the running state `g`. -/
abbrev stores (x0 : Vec F S1x256x1024 .f32) (x1 : Vec F S1x256x1024 .f32) (x2 : Vec F S1x256x1024 .f32) (x3 : Vec F S1x256x1024 .f32) (x4 : Vec F S1x256x128 .f32) (x5 : Vec F S1x256x128 .f32) (x6 : Vec F S1x1024 .f32)
    (f : BufTy.Contents (Elt F) arg9.view.ty) (g : BufTy.Contents (Elt F) arg10.view.ty) (n : ℕ) :=
  pb_k0_t1 (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) (harg7.unread x5) (harg8.unread x6) f g n

/-- So neither does what all the trips leave. -/
theorem stores_of_output (x0 : Vec F S1x256x1024 .f32) (x1 : Vec F S1x256x1024 .f32) (x2 : Vec F S1x256x1024 .f32) (x3 : Vec F S1x256x1024 .f32) (x4 : Vec F S1x256x128 .f32) (x5 : Vec F S1x256x128 .f32) (x6 : Vec F S1x1024 .f32) (f f' : BufTy.Contents (Elt F) arg9.view.ty) (g : BufTy.Contents (Elt F) arg10.view.ty) (n : ℕ) :
    stores c i arg2 harg2 arg3 harg3 arg4 harg4 arg5 harg5 arg6 harg6 arg7 harg7 arg8 harg8 arg9 harg9 arg10 harg10 x0 x1 x2 x3 x4 x5 x6 f g n = stores c i arg2 harg2 arg3 harg3 arg4 harg4 arg5 harg5 arg6 harg6 arg7 harg7 arg8 harg8 arg9 harg9 arg10 harg10 x0 x1 x2 x3 x4 x5 x6 f' g n := by
  induction n with
  | zero => rfl
  | succ n ih =>
    unfold stores at ih ⊢
    rw [pb_k0_t1.eq_2, pb_k0_t1.eq_2, ih]
    unfold pb_k0_t1Step
    split
    · rw [trip_of_output (f' := arg9.view.writes (Elt F) f' _)]
    · rfl

/-- The stores of the four trips from the running state `R`. -/
abbrev all (x0 : Vec F S1x256x1024 .f32) (x1 : Vec F S1x256x1024 .f32) (x2 : Vec F S1x256x1024 .f32) (x3 : Vec F S1x256x1024 .f32) (x4 : Vec F S1x256x128 .f32) (x5 : Vec F S1x256x128 .f32) (x6 : Vec F S1x1024 .f32) (R : Vec F S8x128x128 .f32) :=
  stores c i arg2 harg2 arg3 harg3 arg4 harg4 arg5 harg5 arg6 harg6 arg7 harg7 arg8 harg8 arg9 harg9 arg10 harg10 x0 x1 x2 x3 x4 x5 x6 arg9.view.junk (harg10.unread R) (Scf.trips k0_t1_loop.lb k0_t1_loop.ub k0_t1_loop.st)

/-- The block of the output the body leaves, from the running state `R`. -/
def outBlock (x0 : Vec F S1x256x1024 .f32) (x1 : Vec F S1x256x1024 .f32) (x2 : Vec F S1x256x1024 .f32) (x3 : Vec F S1x256x1024 .f32) (x4 : Vec F S1x256x128 .f32) (x5 : Vec F S1x256x128 .f32) (x6 : Vec F S1x1024 .f32) (R : Vec F S8x128x128 .f32) : Vec F S1x256x1024 .bf16 :=
  View.canon (all c i arg2 harg2 arg3 harg3 arg4 harg4 arg5 harg5 arg6 harg6 arg7 harg7 arg8 harg8 arg9 harg9 arg10 harg10 x0 x1 x2 x3 x4 x5 x6 R).1

/-- The running state the body leaves, from the running state `R`. -/
def newState (x0 : Vec F S1x256x1024 .f32) (x1 : Vec F S1x256x1024 .f32) (x2 : Vec F S1x256x1024 .f32) (x3 : Vec F S1x256x1024 .f32) (x4 : Vec F S1x256x128 .f32) (x5 : Vec F S1x256x128 .f32) (x6 : Vec F S1x1024 .f32) (R : Vec F S8x128x128 .f32) : Vec F S8x128x128 .f32 :=
  arg10.view.read (Elt F) (arg10.view.writes (Elt F) (harg10.unread R) (all c i arg2 harg2 arg3 harg3 arg4 harg4 arg5 harg5 arg6 harg6 arg7 harg7 arg8 harg8 arg9 harg9 arg10 harg10 x0 x1 x2 x3 x4 x5 x6 R).2)

/-- The stores into the output block cover it: thirty-two, of sixty-four positions and one head each. -/
theorem all_cover (x0 : Vec F S1x256x1024 .f32) (x1 : Vec F S1x256x1024 .f32) (x2 : Vec F S1x256x1024 .f32) (x3 : Vec F S1x256x1024 .f32) (x4 : Vec F S1x256x128 .f32) (x5 : Vec F S1x256x128 .f32) (x6 : Vec F S1x1024 .f32) (R : Vec F S8x128x128 .f32) (y : S1x256x1024.Idx) :
    ∃ p ∈ (all c i arg2 harg2 arg3 harg3 arg4 harg4 arg5 harg5 arg6 harg6 arg7 harg7 arg8 harg8 arg9 harg9 arg10 harg10 x0 x1 x2 x3 x4 x5 x6 R).1, y ∈ p.1.set :=
  View.cover_of_tiledL (all c i arg2 harg2 arg3 harg3 arg4 harg4 arg5 harg5 arg6 harg6 arg7 harg7 arg8 harg8 arg9 harg9 arg10 harg10 x0 x1 x2 x3 x4 x5 x6 R).1 S1x64x128.size (by sl_kernel_rfl) y

set_option maxHeartbeats 1000000 in
/-- The body at the first block of a sequence: it starts from the zero state, whatever the scratch held. -/
theorem runA (hc0 : cond0_0 i) (x0 : Vec F S1x256x1024 .f32) (x1 : Vec F S1x256x1024 .f32) (x2 : Vec F S1x256x1024 .f32) (x3 : Vec F S1x256x1024 .f32) (x4 : Vec F S1x256x128 .f32) (x5 : Vec F S1x256x128 .f32) (x6 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outBlock c i arg2 harg2 arg3 harg3 arg4 harg4 arg5 harg5 arg6 harg6 arg7 harg7 arg8 harg8 arg9 harg9 arg10 harg10 x0 x1 x2 x3 x4 x5 x6 zeroState) ∗ owns (c : Thread nD τ) arg10 fullShare (newState c i arg2 harg2 arg3 harg3 arg4 harg4 arg5 harg5 arg6 harg6 arg7 harg7 arg8 harg8 arg9 harg9 arg10 harg10 x0 x1 x2 x3 x4 x5 x6 zeroState)) -∗ K ⟨⟩))
      ⊢ wp frame (wpE (defs₀ (F := F)) Variants.none c none) E (cc0_retention i arg2 harg2 arg3 harg3 arg4 harg4 arg5 harg5 arg6 harg6 arg7 harg7 arg8 harg8 arg9 harg9 arg10 harg10) K := by
  simp only [cc0_retention_eq_skeleton]; unfold cc0_retention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0)
  sl_step
  rw [View.writes_append, show arg10.view.writes (Elt F) arg10.view.junk runA.sl.HS0_1 = harg10.unread zeroState from
    harg10.eq_unread (View.read_writes_full _ _ _ _ [])]
  have e := stores_of_output c i arg2 harg2 arg3 harg3 arg4 harg4 arg5 harg5 arg6 harg6 arg7 harg7 arg8 harg8 arg9 harg9 arg10 harg10 x0 x1 x2 x3 x4 x5 x6 f7 arg9.view.junk (harg10.unread zeroState) (Scf.trips k0_t1_loop.lb k0_t1_loop.ub k0_t1_loop.st)
  unfold stores at e
  rw [e]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro; exact View.read_writes_eq_canon _ _ _ (all_cover c i arg2 harg2 arg3 harg3 arg4 harg4 arg5 harg5 arg6 harg6 arg7 harg7 arg8 harg8 arg9 harg9 arg10 harg10 x0 x1 x2 x3 x4 x5 x6 zeroState)
  iexists _; isplitr
  swap; · iexact HS0
  ipureintro; rfl

set_option maxHeartbeats 1000000 in
/-- The body at a later block: it starts from the state the scratch holds. -/
theorem runB (hc0 : ¬cond0_0 i) (x0 : Vec F S1x256x1024 .f32) (x1 : Vec F S1x256x1024 .f32) (x2 : Vec F S1x256x1024 .f32) (x3 : Vec F S1x256x1024 .f32) (x4 : Vec F S1x256x128 .f32) (x5 : Vec F S1x256x128 .f32) (x6 : Vec F S1x1024 .f32) (R : Vec F S8x128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare R
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outBlock c i arg2 harg2 arg3 harg3 arg4 harg4 arg5 harg5 arg6 harg6 arg7 harg7 arg8 harg8 arg9 harg9 arg10 harg10 x0 x1 x2 x3 x4 x5 x6 R) ∗ owns (c : Thread nD τ) arg10 fullShare (newState c i arg2 harg2 arg3 harg3 arg4 harg4 arg5 harg5 arg6 harg6 arg7 harg7 arg8 harg8 arg9 harg9 arg10 harg10 x0 x1 x2 x3 x4 x5 x6 R)) -∗ K ⟨⟩))
      ⊢ wp frame (wpE (defs₀ (F := F)) Variants.none c none) E (cc0_retention i arg2 harg2 arg3 harg3 arg4 harg4 arg5 harg5 arg6 harg6 arg7 harg7 arg8 harg8 arg9 harg9 arg10 harg10) K := by
  simp only [cc0_retention_eq_skeleton]; unfold cc0_retention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hs0
  sl_exec (disch := first | sl_exact hc0)
  sl_step
  have e := stores_of_output c i arg2 harg2 arg3 harg3 arg4 harg4 arg5 harg5 arg6 harg6 arg7 harg7 arg8 harg8 arg9 harg9 arg10 harg10 x0 x1 x2 x3 x4 x5 x6 f7 arg9.view.junk (harg10.unread R) (Scf.trips k0_t1_loop.lb k0_t1_loop.ub k0_t1_loop.st)
  unfold stores at e
  rw [e]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro; exact View.read_writes_eq_canon _ _ _ (all_cover c i arg2 harg2 arg3 harg3 arg4 harg4 arg5 harg5 arg6 harg6 arg7 harg7 arg8 harg8 arg9 harg9 arg10 harg10 x0 x1 x2 x3 x4 x5 x6 R)
  iexists _; isplitr
  swap; · iexact HS0
  ipureintro; rfl

end

end Cert.RetIdeal.Gen

end
-- ==== Proof.RetIdealHead.lean ====
module

public import proofs.«01_k».proof.Proof.RetIdealRun

@[expose] public section

set_option maxRecDepth 16384

noncomputable section

namespace Cert.RetIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
/-! One chunk of sixty-four positions of one head, as the kernel's body computes it: the rotated queries and keys, the
decays, the head's part of the output and its next running state. The body does this for eight heads in a row; the
theorem at the end says so. -/

/-- A block of a head as a matrix. -/
def plane (z : Vec F S1x64x128 .f32) : FVec F S64x128 .f32 := shapeCast S64x128 z shapeCasts_S1x64x128_S64x128

/-- Queries or keys turned by the angles of their positions: `z` times one table plus `z`, its halves exchanged, times
    the other. -/
def turned (c2 s2 z : Vec F S1x64x128 .f32) : FVec F S64x128 .f32 :=
  addf (mulf (plane z) (plane c2)) (mulf (dynamicRotate 1 64#32 none (plane z) rotates_S64x128_d1) (plane s2))

/-- The turned keys, scaled. -/
def keys (c2 s2 z : Vec F S1x64x128 .f32) : FVec F S64x128 .f32 :=
  mulf (turned c2 s2 z) (broadcast S64x128 (Scalar.ofBits .f32 0x3DB504F3#32))

/-- The decay between two positions of a chunk: zero where the second is later. -/
def decay (lg : F .f32) : FVec F S64x64 .f32 :=
  select k0_pay2 (exp (mulf k0_pay3 (broadcast S64x64 lg))) (broadcast S64x64 (Scalar.ofBits .f32 0x00000000#32))

/-- The decay from the chunk's start up to and with each position. -/
def decayIn (lg : F .f32) : FVec F S64x1 .f32 :=
  exp (mulf (addf k0_pay4 (broadcast S64x1 (Scalar.ofBits .f32 0x3F800000#32))) (broadcast S64x1 lg))

/-- The decay from each position to the chunk's end. -/
def decayOut (lg : F .f32) : FVec F S64x1 .f32 :=
  exp (mulf (subf (broadcast S64x1 (Scalar.ofBits .f32 0x427C0000#32)) k0_pay4) (broadcast S64x1 lg))

/-- The head's running state after the chunk. -/
def headState (lg cd : F .f32) (c2 s2 k v : Vec F S1x64x128 .f32) (R : Vec F S1x128x128 .f32) : FVec F S1x128x128 .f32 :=
  shapeCast S1x128x128
    (addf (mulf (shapeCast S128x128 R shapeCasts_S1x128x128_S128x128) (broadcast S128x128 cd))
      (matmul dot_S128x64_S64x128_S128x128_1_0_0_1_n_n (some .fp32)
        (transpose S128x64 [1, 0] (mulf (keys c2 s2 k) (broadcastTo S64x128 (decayOut lg) broadcasts_S64x1_S64x128))
          transposes_S64x128_p1_0_S128x64)
        (plane v) (constant S128x128 .f32 0x00000000#32)))
    shapeCasts_S128x128_S1x128x128

/-- The retention of the chunk: the decayed scores times the values, and the queries times the state before. -/
def mixed (lg : F .f32) (c2 s2 q k v : Vec F S1x64x128 .f32) (R : Vec F S1x128x128 .f32) : FVec F S64x128 .f32 :=
  addf
    (matmul dot_S64x64_S64x128_S64x128_1_0_0_1_n_n (some .fp32)
      (mulf (matmul dot_S64x128_S64x128_S64x64_1_1_0_0_n_n (some .fp32) (turned c2 s2 q) (keys c2 s2 k)
        (constant S64x64 .f32 0x00000000#32)) (decay lg))
      (plane v) (constant S64x128 .f32 0x00000000#32))
    (mulf (matmul dot_S64x128_S128x128_S64x128_1_0_0_1_n_n (some .fp32) (turned c2 s2 q)
        (shapeCast S128x128 R shapeCasts_S1x128x128_S128x128) (constant S64x128 .f32 0x00000000#32))
      (broadcastTo S64x128 (decayIn lg) broadcasts_S64x1_S64x128))

/-- A row less its mean. -/
def centred (o : FVec F S64x128 .f32) : FVec F S64x128 .f32 :=
  subf o (broadcastTo S64x128
    (divf (shapeCast S64x1 (multiReduction .add [1] S64 o 0x00000000#32 reduces_S64x128_S64 (.inl rfl) rfl)
        shapeCasts_S64_S64x1) (broadcast S64x1 (Scalar.ofBits .f32 0x43000000#32)))
    broadcasts_S64x1_S64x128)

/-- A centred row over its standard deviation. -/
def scaled (o : FVec F S64x128 .f32) : FVec F S64x128 .f32 :=
  mulf o (broadcastTo S64x128
    (rsqrt (addf
      (divf (shapeCast S64x1 (multiReduction .add [1] S64 (mulf o o) 0x00000000#32 reduces_S64x128_S64 (.inl rfl) rfl)
          shapeCasts_S64_S64x1) (broadcast S64x1 (Scalar.ofBits .f32 0x43000000#32)))
      (broadcast S64x1 (Scalar.ofBits .f32 0x3727C5AC#32))))
    broadcasts_S64x1_S64x128)

/-- The gate of the output. -/
def gated (g : Vec F S1x64x128 .f32) : FVec F S64x128 .f32 :=
  mulf (plane g) (divf (broadcast S64x128 (Scalar.ofBits .f32 0x3F800000#32))
    (addf (broadcast S64x128 (Scalar.ofBits .f32 0x3F800000#32))
      (exp (subf (broadcast S64x128 (Scalar.ofBits .f32 0x00000000#32)) (plane g)))))

/-- The head's part of the output: the retention, normed over the head, scaled and gated. -/
def headOut (lg : F .f32) (c2 s2 q k v g : Vec F S1x64x128 .f32) (ng : Vec F S1x128 .f32) (R : Vec F S1x128x128 .f32) :
    FVec F S1x64x128 .bf16 :=
  shapeCast S1x64x128
    (truncf .bf16
      (mulf (mulf (scaled (centred (mixed lg c2 s2 q k v R)))
          (broadcastTo S64x128 (shapeCast S1x128 ng shapeCasts_S1x128_S1x128) broadcasts_S1x128_S64x128))
        (gated g)) bitsLt_bf16_f32)
    shapeCasts_S64x128_S1x64x128

/-- The logarithm of each head's decay. -/
def lgOf : Fin 8 → F .f32 :=
  ![Named.named κ "lg0" 0xBD020AEC#32, Named.named κ "lg1" 0xBC8102B3#32, Named.named κ "lg2" 0xBC0080AC#32,
    Named.named κ "lg3" 0xBB80402B#32, Named.named κ "lg4" 0xBB00200B#32, Named.named κ "lg5" 0xBA801003#32,
    Named.named κ "lg6" 0xBA000801#32, Named.named κ "lg7" 0xB9800400#32]

/-- Each head's decay over a chunk. -/
def cdOf : Fin 8 → F .f32 :=
  ![Named.named κ "cd0" 0x3E063AE5#32, Named.named κ "cd1" 0x3EBADF84#32, Named.named κ "cd2" 0x3F1AF7A1#32,
    Named.named κ "cd3" 0x3F474682#32, Named.named κ "cd4" 0x3F61E440#32, Named.named κ "cd5" 0x3F707B7F#32,
    Named.named κ "cd6" 0x3F781F2F#32, Named.named κ "cd7" 0x3F7C07D6#32]

/-- The store of head `h` into the output block: the rectangles say where its chunk, its tables, its norm weights and
    its state lie. -/
def outPiece (h : Fin 8) (off : Fin 3 → Nat) (inb : ∀ a, off a + S1x64x128.size a ≤ S1x256x1024.size a)
    (offT : Fin 3 → Nat) (inbT : ∀ a, offT a + S1x64x128.size a ≤ S1x256x128.size a)
    (offN : Fin 2 → Nat) (inbN : ∀ a, offN a + S1x128.size a ≤ S1x1024.size a)
    (offS : Fin 3 → Nat) (inbS : ∀ a, offS a + S1x128x128.size a ≤ S8x128x128.size a)
    (x0 : Vec F S1x256x1024 .f32) (x1 : Vec F S1x256x1024 .f32) (x2 : Vec F S1x256x1024 .f32) (x3 : Vec F S1x256x1024 .f32) (x4 : Vec F S1x256x128 .f32) (x5 : Vec F S1x256x128 .f32) (x6 : Vec F S1x1024 .f32) (S : Vec F S8x128x128 .f32) : View.Piece (Elt F) S1x256x1024 .bf16 :=
  ⟨Rect.unit (s := S1x256x1024) off S1x64x128.size inb,
    headOut (lgOf h) (fun j => x4 ((Rect.unit (s := S1x256x128) offT S1x64x128.size inbT).toLoadRect.idx j))
      (fun j => x5 ((Rect.unit (s := S1x256x128) offT S1x64x128.size inbT).toLoadRect.idx j))
      (fun j => x0 ((Rect.unit (s := S1x256x1024) off S1x64x128.size inb).toLoadRect.idx j))
      (fun j => x1 ((Rect.unit (s := S1x256x1024) off S1x64x128.size inb).toLoadRect.idx j))
      (fun j => x2 ((Rect.unit (s := S1x256x1024) off S1x64x128.size inb).toLoadRect.idx j))
      (fun j => x3 ((Rect.unit (s := S1x256x1024) off S1x64x128.size inb).toLoadRect.idx j))
      (fun j => x6 ((Rect.unit (s := S1x1024) offN S1x128.size inbN).toLoadRect.idx j))
      (fun j => S ((Rect.unit (s := S8x128x128) offS S1x128x128.size inbS).toLoadRect.idx j))⟩

/-- The store of head `h` into the running state. -/
def statePiece (h : Fin 8) (off : Fin 3 → Nat) (inb : ∀ a, off a + S1x64x128.size a ≤ S1x256x1024.size a)
    (offT : Fin 3 → Nat) (inbT : ∀ a, offT a + S1x64x128.size a ≤ S1x256x128.size a)
    (offS : Fin 3 → Nat) (inbS : ∀ a, offS a + S1x128x128.size a ≤ S8x128x128.size a)
    (x0 : Vec F S1x256x1024 .f32) (x1 : Vec F S1x256x1024 .f32) (x2 : Vec F S1x256x1024 .f32) (x3 : Vec F S1x256x1024 .f32) (x4 : Vec F S1x256x128 .f32) (x5 : Vec F S1x256x128 .f32) (x6 : Vec F S1x1024 .f32) (S : Vec F S8x128x128 .f32) : View.Piece (Elt F) S8x128x128 .f32 :=
  ⟨Rect.unit (s := S8x128x128) offS S1x128x128.size inbS,
    headState (lgOf h) (cdOf h) (fun j => x4 ((Rect.unit (s := S1x256x128) offT S1x64x128.size inbT).toLoadRect.idx j))
      (fun j => x5 ((Rect.unit (s := S1x256x128) offT S1x64x128.size inbT).toLoadRect.idx j))
      (fun j => x1 ((Rect.unit (s := S1x256x1024) off S1x64x128.size inb).toLoadRect.idx j))
      (fun j => x2 ((Rect.unit (s := S1x256x1024) off S1x64x128.size inb).toLoadRect.idx j))
      (fun j => S ((Rect.unit (s := S8x128x128) offS S1x128x128.size inbS).toLoadRect.idx j))⟩

/-- The stores of one chunk into the output block, the last head first. -/
def outPieces (k : Fin k0_t1_loop.trips) (x0 : Vec F S1x256x1024 .f32) (x1 : Vec F S1x256x1024 .f32) (x2 : Vec F S1x256x1024 .f32) (x3 : Vec F S1x256x1024 .f32) (x4 : Vec F S1x256x128 .f32) (x5 : Vec F S1x256x128 .f32) (x6 : Vec F S1x1024 .f32) (S : Vec F S8x128x128 .f32) : List (View.Piece (Elt F) S1x256x1024 .bf16) :=
    [outPiece 7 (k0_off9 k) (k0_off9_inb k) (k0_off1 k) (k0_off1_inb k) ![0, 896] inb_S1x1024_S1x128_0_896 ![7, 0, 0] inb_S8x128x128_S1x128x128_7_0_0 x0 x1 x2 x3 x4 x5 x6 S,
      outPiece 6 (k0_off8 k) (k0_off8_inb k) (k0_off1 k) (k0_off1_inb k) ![0, 768] inb_S1x1024_S1x128_0_768 ![6, 0, 0] inb_S8x128x128_S1x128x128_6_0_0 x0 x1 x2 x3 x4 x5 x6 S,
      outPiece 5 (k0_off7 k) (k0_off7_inb k) (k0_off1 k) (k0_off1_inb k) ![0, 640] inb_S1x1024_S1x128_0_640 ![5, 0, 0] inb_S8x128x128_S1x128x128_5_0_0 x0 x1 x2 x3 x4 x5 x6 S,
      outPiece 4 (k0_off6 k) (k0_off6_inb k) (k0_off1 k) (k0_off1_inb k) ![0, 512] inb_S1x1024_S1x128_0_512 ![4, 0, 0] inb_S8x128x128_S1x128x128_4_0_0 x0 x1 x2 x3 x4 x5 x6 S,
      outPiece 3 (k0_off5 k) (k0_off5_inb k) (k0_off1 k) (k0_off1_inb k) ![0, 384] inb_S1x1024_S1x128_0_384 ![3, 0, 0] inb_S8x128x128_S1x128x128_3_0_0 x0 x1 x2 x3 x4 x5 x6 S,
      outPiece 2 (k0_off4 k) (k0_off4_inb k) (k0_off1 k) (k0_off1_inb k) ![0, 256] inb_S1x1024_S1x128_0_256 ![2, 0, 0] inb_S8x128x128_S1x128x128_2_0_0 x0 x1 x2 x3 x4 x5 x6 S,
      outPiece 1 (k0_off3 k) (k0_off3_inb k) (k0_off1 k) (k0_off1_inb k) ![0, 128] inb_S1x1024_S1x128_0_128 ![1, 0, 0] inb_S8x128x128_S1x128x128_1_0_0 x0 x1 x2 x3 x4 x5 x6 S,
      outPiece 0 (k0_off2 k) (k0_off2_inb k) (k0_off1 k) (k0_off1_inb k) ![0, 0] inb_S1x1024_S1x128_0_0 ![0, 0, 0] inb_S8x128x128_S1x128x128_0_0_0 x0 x1 x2 x3 x4 x5 x6 S]

/-- The stores of one chunk into the running state, the last head first. -/
def statePieces (k : Fin k0_t1_loop.trips) (x0 : Vec F S1x256x1024 .f32) (x1 : Vec F S1x256x1024 .f32) (x2 : Vec F S1x256x1024 .f32) (x3 : Vec F S1x256x1024 .f32) (x4 : Vec F S1x256x128 .f32) (x5 : Vec F S1x256x128 .f32) (x6 : Vec F S1x1024 .f32) (S : Vec F S8x128x128 .f32) : List (View.Piece (Elt F) S8x128x128 .f32) :=
    [statePiece 7 (k0_off9 k) (k0_off9_inb k) (k0_off1 k) (k0_off1_inb k) ![7, 0, 0] inb_S8x128x128_S1x128x128_7_0_0 x0 x1 x2 x3 x4 x5 x6 S,
      statePiece 6 (k0_off8 k) (k0_off8_inb k) (k0_off1 k) (k0_off1_inb k) ![6, 0, 0] inb_S8x128x128_S1x128x128_6_0_0 x0 x1 x2 x3 x4 x5 x6 S,
      statePiece 5 (k0_off7 k) (k0_off7_inb k) (k0_off1 k) (k0_off1_inb k) ![5, 0, 0] inb_S8x128x128_S1x128x128_5_0_0 x0 x1 x2 x3 x4 x5 x6 S,
      statePiece 4 (k0_off6 k) (k0_off6_inb k) (k0_off1 k) (k0_off1_inb k) ![4, 0, 0] inb_S8x128x128_S1x128x128_4_0_0 x0 x1 x2 x3 x4 x5 x6 S,
      statePiece 3 (k0_off5 k) (k0_off5_inb k) (k0_off1 k) (k0_off1_inb k) ![3, 0, 0] inb_S8x128x128_S1x128x128_3_0_0 x0 x1 x2 x3 x4 x5 x6 S,
      statePiece 2 (k0_off4 k) (k0_off4_inb k) (k0_off1 k) (k0_off1_inb k) ![2, 0, 0] inb_S8x128x128_S1x128x128_2_0_0 x0 x1 x2 x3 x4 x5 x6 S,
      statePiece 1 (k0_off3 k) (k0_off3_inb k) (k0_off1 k) (k0_off1_inb k) ![1, 0, 0] inb_S8x128x128_S1x128x128_1_0_0 x0 x1 x2 x3 x4 x5 x6 S,
      statePiece 0 (k0_off2 k) (k0_off2_inb k) (k0_off1 k) (k0_off1_inb k) ![0, 0, 0] inb_S8x128x128_S1x128x128_0_0_0 x0 x1 x2 x3 x4 x5 x6 S]

section
variable (c : Dev nD) (i : grid0.Coords)
  (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S8x128x128 .f32) (harg10 : arg10.IsWhole)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty)
  (k : Fin k0_t1_loop.trips) (f : BufTy.Contents (Elt F) arg9.view.ty) (g : BufTy.Contents (Elt F) arg10.view.ty)

set_option maxHeartbeats 4000000 in
/-- One trip of the body stores, of each head, its part of the output and its next running state. -/
theorem trip_stores :
    tripL_k0_t1 (F := F) Variants.none c none i arg2 harg2 arg3 harg3 arg4 harg4 arg5 harg5 arg6 harg6 arg7 harg7 arg8 harg8 arg9 harg9 arg10 harg10 X_arg2 X_arg3 X_arg4 X_arg5 X_arg6 X_arg7 X_arg8 k f g
      = (outPieces k (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg10.view.read (Elt F) g), statePieces k (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg10.view.read (Elt F) g)) := by
  unfold tripL_k0_t1 trip_k0_t1
  rfl
end

end Cert.RetIdeal.Gen
-- ==== Proof.RetSpec.lean ====
/- The retention over the extended reals, written out at every entry: the turned queries and keys, the decays, the
   running state from chunk to chunk, and the normed and gated result. Both programs are shown to compute it. -/
module

public import Idealize.ShloMosaic.Lib.Pipeline.ValueKit

@[expose] public section

noncomputable section

namespace Cert.RetSpec

open Idealize.ShloMosaic

/-- An entry of an array of three axes at natural numbers; zero outside the array. -/
def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

/-- Every entry is one at natural numbers. -/
theorem at3_eq {a b c : ℕ} (x : (⟨3, ![a, b, c]⟩ : Shape).Idx → EReal) (y : (⟨3, ![a, b, c]⟩ : Shape).Idx) :
    x y = at3 x (y 0).val (y 1).val (y 2).val := by
  unfold at3
  rw [dif_pos ⟨(y 0).isLt, (y 1).isLt, (y 2).isLt⟩]
  exact congrArg x (eq_ix3 y)

/-- Two entries at equal places are equal. -/
theorem at3_congr {a b c : ℕ} (x : (⟨3, ![a, b, c]⟩ : Shape).Idx → EReal) {i i' j j' k k' : ℕ}
    (hi : i = i') (hj : j = j') (hk : k = k') : at3 x i j k = at3 x i' j' k' := by
  rw [hi, hj, hk]

/-- An entry of an array of one axis at a natural number. -/
def at1 {a : ℕ} (x : (⟨1, ![a]⟩ : Shape).Idx → EReal) (i : ℕ) : EReal :=
  if h : i < a then x (ix1 ⟨i, h⟩) else 0

/-- Every entry is one at a natural number. -/
theorem at1_eq {a : ℕ} (x : (⟨1, ![a]⟩ : Shape).Idx → EReal) (y : (⟨1, ![a]⟩ : Shape).Idx) :
    x y = at1 x (y 0).val := by
  unfold at1
  rw [dif_pos (show (y 0).val < a from (y 0).isLt)]
  exact congrArg x (eq_ix1 y)

/-- The logarithm of a head's decay, `1 - 2 ^ -(5 + h)`. -/
def lg (h : ℕ) : EReal := ((Real.log (1 - 1 / 2 ^ (5 + h)) : ℝ) : EReal)

/-- A head's decay over a chunk of sixty-four positions. -/
def cd (h : ℕ) : EReal := (((1 - 1 / 2 ^ (5 + h)) ^ 64 : ℝ) : EReal)

/-- The decay from position `s` to position `r` of a chunk; none from a later one. -/
def within (h r s : ℕ) : EReal := if s ≤ r then Ideal.exp ((((r : ℝ) - (s : ℝ) : ℝ) : EReal) * lg h) else 0

/-- The decay of the state before a chunk at its position `r`. -/
def into (h r : ℕ) : EReal := Ideal.exp ((((r : ℝ) + 1 : ℝ) : EReal) * lg h)

/-- The decay from position `s` of a chunk to its end. -/
def outof (h s : ℕ) : EReal := Ideal.exp (((63 - (s : ℝ) : ℝ) : EReal) * lg h)

section
variable (P : (⟨3, ![4, 2048, 8320]⟩ : Shape).Idx → EReal) (C N : (⟨3, ![4, 2048, 64]⟩ : Shape).Idx → EReal)
  (G : (⟨1, ![1024]⟩ : Shape).Idx → EReal)

/-- Rotary position: the two halves of a head's vector, which begins at column `o`, turned by the position's angles. -/
def turn (o b i h d : ℕ) : EReal :=
  if d < 64 then at3 P b i (o + 128 * h + d) * at3 C b i d - at3 P b i (o + 128 * h + (d + 64)) * at3 N b i d
  else at3 P b i (o + 128 * h + (d - 64)) * at3 N b i (d - 64) + at3 P b i (o + 128 * h + d) * at3 C b i (d - 64)

/-- A query. -/
def query (b i h d : ℕ) : EReal := turn P C N 0 b i h d

/-- A key, scaled. -/
def key (b i h d : ℕ) : EReal := turn P C N 1024 b i h d * Ideal.ofBits .f32 0x3DB504F3#32

/-- A value. -/
def value (b i h e : ℕ) : EReal := at3 P b i (2048 + 128 * h + e)

/-- The running state of sequence `b` and head `h` before chunk `n`. -/
def state (b h : ℕ) : ℕ → ℕ → ℕ → EReal
  | 0 => fun _ _ => 0
  | n + 1 => fun d e => state b h n d e * cd h
      + ∑ s : Fin 64, key P C N b (64 * n + s.val) h d * outof h s.val * value P b (64 * n + s.val) h e

/-- The retention at position `r` of chunk `n`. -/
def mix (b n h r e : ℕ) : EReal :=
  (∑ s : Fin 64, (∑ d : Fin 128, query P C N b (64 * n + r) h d.val * key P C N b (64 * n + s.val) h d.val) * within h r s.val
      * value P b (64 * n + s.val) h e)
    + (∑ d : Fin 128, query P C N b (64 * n + r) h d.val * state P C N b h n d.val e) * into h r

/-- The mean over a head. -/
def mean (o : Fin 128 → EReal) : EReal := Ideal.div (∑ x : Fin 128, o x) (Ideal.ofBits .f32 0x43000000#32)

/-- A head's vector less its mean, over its standard deviation. -/
def normed (o : Fin 128 → EReal) (e : Fin 128) : EReal :=
  (o e - mean o) * Ideal.rsqrt (mean (fun x => (o x - mean o) * (o x - mean o)) + Ideal.ofBits .f32 0x3727C5AC#32)

/-- The gate. -/
def gate (b i j : ℕ) : EReal :=
  at3 P b i (3072 + j) * Ideal.div 1 (1 + Ideal.exp (0 - at3 P b i (3072 + j)))

/-- The result. -/
def result (y : (⟨3, ![4, 2048, 1024]⟩ : Shape).Idx) : EReal :=
  normed (fun x => mix P C N (y 0).val ((y 1).val / 64) ((y 2).val / 128) ((y 1).val % 64) x.val)
      ⟨(y 2).val % 128, Nat.mod_lt _ (by decide)⟩
    * at1 G (y 2).val * gate P (y 0).val (y 1).val (y 2).val
end

end Cert.RetSpec
-- ==== Proof.RetIdealPoint.lean ====
module

public import proofs.«01_k».proof.Proof.RetIdealHead
public import proofs.«01_k».proof.Proof.RetSpec

/-! What one chunk of a head computes over the extended reals, entry by entry, and the eight heads' constants. -/

@[expose] public section

set_option maxRecDepth 16384

noncomputable section

namespace Cert.RetIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert (RetSpec.lg)

/-- The named logarithms are those of the decays. -/
theorem lgOf_eq (h : Fin 8) : lgOf (F := Ideal) h = RetSpec.lg h.val := by
  have e : ∀ (b : BitVec 32) (n : String) (v : ℝ) (k : ℕ), κ n = some (v : EReal) → v = Real.log (1 - 1 / 2 ^ (5 + k)) →
      Named.named (F := Ideal) κ n (φ := .f32) b = RetSpec.lg k := fun b n v k hn hv => by
    rw [IdealRules.named_const.ideal_named_scalar _ _ _ _ hn, hv]; rfl
  fin_cases h <;> exact e _ _ _ _ rfl (by norm_num)

/-- The named decays over a chunk are theirs. -/
theorem cdOf_eq (h : Fin 8) : cdOf (F := Ideal) h = RetSpec.cd h.val := by
  have e : ∀ (b : BitVec 32) (n : String) (v : ℝ) (k : ℕ), κ n = some (v : EReal) → v = (1 - 1 / 2 ^ (5 + k)) ^ 64 →
      Named.named (F := Ideal) κ n (φ := .f32) b = RetSpec.cd k := fun b n v k hn hv => by
    rw [IdealRules.named_const.ideal_named_scalar _ _ _ _ hn, hv]; rfl
  fin_cases h <;> exact e _ _ _ _ rfl (by norm_num)

/-- A small whole number as a word of thirty-two bits is itself. -/
theorem word_of_nat {n : ℕ} (hn : n < 64) : (BitVec.ofNat 32 n).toInt = n := by
  have e : (BitVec.ofNat 32 n).toNat = n := by rw [BitVec.toNat_ofNat]; exact Nat.mod_eq_of_lt (by omega)
  rw [BitVec.toInt_eq_toNat_of_lt (by omega), e]

/-- A small whole number as a float is itself. -/
theorem float_of_nat {n : ℕ} (hn : n < 64) : FloatOps.sitofp (F := Ideal) .f32 (BitVec.ofNat 32 n) = ((n : ℝ) : EReal) := by
  show (((BitVec.ofNat 32 n).toInt : ℝ) : EReal) = _
  rw [word_of_nat hn]; simp

variable (lg cd : Ideal .f32) (c2 s2 q k v g : Vec Ideal S1x64x128 .f32) (ng : Vec Ideal S1x128 .f32) (R : Vec Ideal S1x128x128 .f32)

/-- The turned vectors. -/
theorem turned_apply (z : Vec Ideal S1x64x128 .f32) (j) : turned c2 s2 z j
    = z (ix3 0 (j 0) (j 1)) * c2 (ix3 0 (j 0) (j 1))
      + z (ix3 0 (j 0) ⟨((j 1).val + 128 - 64) % 128, Nat.mod_lt _ (by decide)⟩) * s2 (ix3 0 (j 0) (j 1)) := by
  pointwise [turned, plane]

/-- The scaled keys. -/
theorem keys_apply (j) : keys c2 s2 k j = turned c2 s2 k j * Ideal.ofBits .f32 0x3DB504F3#32 := by
  pointwise [keys]

/-- The decay within a chunk. -/
theorem decay_apply (h : Fin 8) (j) : decay (F := Ideal) (lgOf h) j = RetSpec.within h.val (j 0).val (j 1).val := by
  pointwise [decay, k0_pay2, k0_pay3]
  have h0 : (j 0).val < 64 := (j 0).isLt
  have h1 : (j 1).val < 64 := (j 1).isLt
  rw [lgOf_eq]
  unfold RetSpec.within
  have e : (IntOp.subi (BitVec.ofNat 32 (j 0).val) (BitVec.ofNat 32 (j 1).val)).toInt = ((j 0).val : ℤ) - (j 1).val := by
    show (BitVec.ofNat 32 (j 0).val - BitVec.ofNat 32 (j 1).val).toInt = _
    rw [BitVec.toInt_sub, word_of_nat h0, word_of_nat h1]; exact Int.bmod_eq_of_le (by omega) (by omega)
  have ef : FloatOps.sitofp (F := Ideal) .f32 (IntOp.subi (BitVec.ofNat 32 (j 0).val) (BitVec.ofNat 32 (j 1).val))
      = ((((j 0).val : ℝ) - ((j 1).val : ℝ) : ℝ) : EReal) := by
    show ((((IntOp.subi (BitVec.ofNat 32 (j 0).val) (BitVec.ofNat 32 (j 1).val)).toInt : ℤ) : ℝ) : EReal) = _
    rw [e]; push_cast; rfl
  rw [ef]
  by_cases hc : (j 1).val ≤ (j 0).val
  · rw [if_pos hc]
    have : IntOp.cmpi .sge (BitVec.ofNat 32 (j 0).val) (BitVec.ofNat 32 (j 1).val) = 1#1 := by
      simp only [IntOp.cmpi, BitVec.sle, word_of_nat h0, word_of_nat h1]
      rw [decide_eq_true (by exact_mod_cast hc)]; rfl
    rw [this]; rfl
  · rw [if_neg hc]
    have : IntOp.cmpi .sge (BitVec.ofNat 32 (j 0).val) (BitVec.ofNat 32 (j 1).val) = 0#1 := by
      simp only [IntOp.cmpi, BitVec.sle, word_of_nat h0, word_of_nat h1]
      rw [decide_eq_false (by exact_mod_cast hc)]; rfl
    rw [this]; rfl

/-- The decay into a chunk. -/
theorem decayIn_apply (h : Fin 8) (j) : decayIn (F := Ideal) (lgOf h) j = RetSpec.into h.val (j 0).val := by
  pointwise [decayIn, k0_pay4]
  rw [lgOf_eq, float_of_nat (j 0).isLt, RetSpec.into, EReal.coe_add]; rfl

/-- The constant 63. -/
theorem ofBits_63 : Ideal.ofBits .f32 0x427C0000#32 = ((63 : ℝ) : EReal) := by
  simp [Ideal.ofBits, Ideal.ieee, -EReal.coe_mul]; norm_num

/-- The decay out of a chunk. -/
theorem decayOut_apply (h : Fin 8) (j) : decayOut (F := Ideal) (lgOf h) j = RetSpec.outof h.val (j 0).val := by
  pointwise [decayOut, k0_pay4]
  rw [lgOf_eq, float_of_nat (j 0).isLt, RetSpec.outof, EReal.coe_sub, ofBits_63]

/-- The next running state. -/
theorem headState_apply (j) : headState lg cd c2 s2 k v R j
    = R j * cd + ∑ x : Fin 64, keys c2 s2 k (ix2 x (j 1)) * decayOut lg (ix2 x 0) * v (ix3 0 x (j 2)) := by
  pointwise [headState, plane]

/-- The retention. -/
theorem mixed_apply (j) : mixed lg c2 s2 q k v R j
    = (∑ x : Fin 64, (∑ d : Fin 128, turned c2 s2 q (ix2 (j 0) d) * keys c2 s2 k (ix2 x d)) * decay lg (ix2 (j 0) x) * v (ix3 0 x (j 1)))
      + (∑ d : Fin 128, turned c2 s2 q (ix2 (j 0) d) * R (ix3 0 d (j 1))) * decayIn lg (ix2 (j 0) 0) := by
  pointwise [mixed, plane]

/-- The head's part of the output. -/
theorem headOut_apply (j) : headOut lg c2 s2 q k v g ng R j
    = RetSpec.normed (fun x => mixed lg c2 s2 q k v R (ix2 (j 1) x)) (j 2) * ng (ix2 0 (j 2))
      * (g j * Ideal.div 1 (1 + Ideal.exp (0 - g j))) := by
  unfold RetSpec.normed RetSpec.mean
  pointwise [headOut, plane, gated, scaled, centred]

end Cert.RetIdeal.Gen
-- ==== Proof.RetIdealTrip.lean ====
module

public import proofs.«01_k».proof.Proof.RetIdealPoint

/-! What one chunk of a block does to the running state and to the output block, over the extended reals. -/

@[expose] public section

set_option maxRecDepth 16384

noncomputable section

namespace Cert.RetIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open RetSpec (at3)

/-- The offsets of the rectangles: sixty-four positions a chunk, one hundred and twenty-eight columns a head. -/
theorem offs : ∀ k : Fin k0_t1_loop.trips, k0_off1 k = ![0, 64 * k.val, 0] ∧ k0_off2 k = ![0, 64 * k.val, 0]
    ∧ k0_off3 k = ![0, 64 * k.val, 128] ∧ k0_off4 k = ![0, 64 * k.val, 256] ∧ k0_off5 k = ![0, 64 * k.val, 384]
    ∧ k0_off6 k = ![0, 64 * k.val, 512] ∧ k0_off7 k = ![0, 64 * k.val, 640] ∧ k0_off8 k = ![0, 64 * k.val, 768]
    ∧ k0_off9 k = ![0, 64 * k.val, 896] := by decide +kernel

/-- The turned vectors of a block. -/
def bTurn (x : Vec Ideal S1x256x1024 .f32) (x4 x5 : Vec Ideal S1x256x128 .f32) (i h d : ℕ) : EReal :=
  at3 x 0 i (128 * h + d) * at3 x4 0 i d + at3 x 0 i (128 * h + (d + 64) % 128) * at3 x5 0 i d

/-- The scaled keys of a block. -/
def bKey (x : Vec Ideal S1x256x1024 .f32) (x4 x5 : Vec Ideal S1x256x128 .f32) (i h d : ℕ) : EReal :=
  bTurn x x4 x5 i h d * Ideal.ofBits .f32 0x3DB504F3#32

/-- An entry of the running state after chunk `k` of a block, from the state before it. -/
def bStep (k : ℕ) (x1 x2 : Vec Ideal S1x256x1024 .f32) (x4 x5 : Vec Ideal S1x256x128 .f32) (S : Vec Ideal S8x128x128 .f32) (h d e : ℕ) : EReal :=
  at3 S h d e * RetSpec.cd h + ∑ s : Fin 64, bKey x1 x4 x5 (64 * k + s.val) h d * RetSpec.outof h s.val
    * at3 x2 0 (64 * k + s.val) (128 * h + e)

/-- The running state after chunk `k` of a block. -/
def bState (k : ℕ) (x1 x2 : Vec Ideal S1x256x1024 .f32) (x4 x5 : Vec Ideal S1x256x128 .f32) (S : Vec Ideal S8x128x128 .f32) : Vec Ideal S8x128x128 .f32 := fun y =>
  bStep k x1 x2 x4 x5 S (y 0).val (y 1).val (y 2).val

/-- The retention at position `r` of chunk `k` of a block, from the state before the chunk. -/
def bMix (k : ℕ) (x0 : Vec Ideal S1x256x1024 .f32) (x1 x2 : Vec Ideal S1x256x1024 .f32) (x4 x5 : Vec Ideal S1x256x128 .f32) (S : Vec Ideal S8x128x128 .f32) (h r e : ℕ) : EReal :=
  (∑ s : Fin 64, (∑ d : Fin 128, bTurn x0 x4 x5 (64 * k + r) h d.val * bKey x1 x4 x5 (64 * k + s.val) h d.val) * RetSpec.within h r s.val
      * at3 x2 0 (64 * k + s.val) (128 * h + e))
    + (∑ d : Fin 128, bTurn x0 x4 x5 (64 * k + r) h d.val * at3 S h d.val e) * RetSpec.into h r

/-- The output block, from the state before each of its chunks. -/
def bOut (x0 : Vec Ideal S1x256x1024 .f32) (x1 : Vec Ideal S1x256x1024 .f32) (x2 : Vec Ideal S1x256x1024 .f32) (x3 : Vec Ideal S1x256x1024 .f32) (x4 : Vec Ideal S1x256x128 .f32) (x5 : Vec Ideal S1x256x128 .f32) (x6 : Vec Ideal S1x1024 .f32) (T : ℕ → Vec Ideal S8x128x128 .f32) : Vec Ideal S1x256x1024 .bf16 := fun y =>
  RetSpec.normed (fun x => bMix ((y 1).val / 64) x0 x1 x2 x4 x5 (T ((y 1).val / 64)) ((y 2).val / 128) ((y 1).val % 64) x.val)
      ⟨(y 2).val % 128, Nat.mod_lt _ (by decide)⟩
    * x6 (ix2 0 (y 2)) * (x3 y * Ideal.div 1 (1 + Ideal.exp (0 - x3 y)))

section
variable (k : Fin k0_t1_loop.trips) (h : Fin 8) (inb : ∀ a, (![0, 64 * k.val, 128 * h.val] : Fin 3 → Nat) a + S1x64x128.size a ≤ S1x256x1024.size a)
    (inbT : ∀ a, (![0, 64 * k.val, 0] : Fin 3 → Nat) a + S1x64x128.size a ≤ S1x256x128.size a)
    (inbN : ∀ a, (![0, 128 * h.val] : Fin 2 → Nat) a + S1x128.size a ≤ S1x1024.size a)
    (inbS : ∀ a, (![h.val, 0, 0] : Fin 3 → Nat) a + S1x128x128.size a ≤ S8x128x128.size a)
    (x0 : Vec Ideal S1x256x1024 .f32) (x1 : Vec Ideal S1x256x1024 .f32) (x2 : Vec Ideal S1x256x1024 .f32) (x3 : Vec Ideal S1x256x1024 .f32) (x4 : Vec Ideal S1x256x128 .f32) (x5 : Vec Ideal S1x256x128 .f32) (x6 : Vec Ideal S1x1024 .f32) (S : Vec Ideal S8x128x128 .f32)

/-- An entry of a rectangle, at natural numbers. -/
theorem at_rect {a b c : ℕ} (x : (⟨3, ![a, b, c]⟩ : Shape).Idx → EReal) (o0 o1 o2 : ℕ) (size : Fin 3 → ℕ)
    (inb : ∀ i, (![o0, o1, o2] : Fin 3 → ℕ) i + size i ≤ (⟨3, ![a, b, c]⟩ : Shape).size i)
    (j : (Rect.unit (s := ⟨3, ![a, b, c]⟩) ![o0, o1, o2] size inb).shape.Idx) :
    x ((Rect.unit (s := ⟨3, ![a, b, c]⟩) ![o0, o1, o2] size inb).idx j) = at3 x (o0 + (j 0).val) (o1 + (j 1).val) (o2 + (j 2).val) :=
  (RetSpec.at3_eq _ _).trans (RetSpec.at3_congr _ (congrArg (o0 + ·) (Nat.one_mul _)) (congrArg (o1 + ·) (Nat.one_mul _))
    (congrArg (o2 + ·) (Nat.one_mul _)))

/-- A turned entry of the chunk. -/
theorem turned_block (x : Vec Ideal S1x256x1024 .f32) (i : Fin 64) (d : Fin 128) :
    turned (fun j => x4 ((Rect.unit (s := S1x256x128) ![0, 64 * k.val, 0] S1x64x128.size inbT).toLoadRect.idx j))
      (fun j => x5 ((Rect.unit (s := S1x256x128) ![0, 64 * k.val, 0] S1x64x128.size inbT).toLoadRect.idx j))
      (fun j => x ((Rect.unit (s := S1x256x1024) ![0, 64 * k.val, 128 * h.val] S1x64x128.size inb).toLoadRect.idx j)) (ix2 i d)
    = bTurn x x4 x5 (64 * k.val + i.val) h.val d.val := by
  rw [turned_apply, bTurn]
  have e1 := at_rect x _ _ _ S1x64x128.size inb (ix3 0 i d)
  have e2 := at_rect x4 _ _ _ S1x64x128.size inbT (ix3 0 i d)
  have e3 := at_rect x _ _ _ S1x64x128.size inb (ix3 0 i ⟨(d.val + 128 - 64) % 128, Nat.mod_lt _ (by decide)⟩)
  have e4 := at_rect x5 _ _ _ S1x64x128.size inbT (ix3 0 i d)
  refine (congrArg₂ (· + ·) (congrArg₂ (· * ·) e1 e2) (congrArg₂ (· * ·) e3 e4)).trans ?_
  refine congrArg₂ (· + ·) (congrArg₂ (· * ·) rfl ?_) (congrArg₂ (· * ·) rfl ?_)
  · exact RetSpec.at3_congr _ rfl rfl (Nat.zero_add _)
  · exact RetSpec.at3_congr _ rfl rfl (Nat.zero_add _)

/-- A scaled key of the chunk. -/
theorem keys_block (x : Vec Ideal S1x256x1024 .f32) (i : Fin 64) (d : Fin 128) :
    keys (fun j => x4 ((Rect.unit (s := S1x256x128) ![0, 64 * k.val, 0] S1x64x128.size inbT).toLoadRect.idx j))
      (fun j => x5 ((Rect.unit (s := S1x256x128) ![0, 64 * k.val, 0] S1x64x128.size inbT).toLoadRect.idx j))
      (fun j => x ((Rect.unit (s := S1x256x1024) ![0, 64 * k.val, 128 * h.val] S1x64x128.size inb).toLoadRect.idx j)) (ix2 i d)
    = bKey x x4 x5 (64 * k.val + i.val) h.val d.val := by
  rw [keys_apply, turned_block k h inb inbT, bKey]

/-- The next running state of a head, of the chunk. -/
theorem headState_block (j : S1x128x128.Idx) :
    headState (lgOf h) (cdOf h) (fun j => x4 ((Rect.unit (s := S1x256x128) ![0, 64 * k.val, 0] S1x64x128.size inbT).toLoadRect.idx j))
      (fun j => x5 ((Rect.unit (s := S1x256x128) ![0, 64 * k.val, 0] S1x64x128.size inbT).toLoadRect.idx j))
      (fun j => x1 ((Rect.unit (s := S1x256x1024) ![0, 64 * k.val, 128 * h.val] S1x64x128.size inb).toLoadRect.idx j))
      (fun j => x2 ((Rect.unit (s := S1x256x1024) ![0, 64 * k.val, 128 * h.val] S1x64x128.size inb).toLoadRect.idx j))
      (fun j => S ((Rect.unit (s := S8x128x128) ![h.val, 0, 0] S1x128x128.size inbS).toLoadRect.idx j)) j
    = bStep k.val x1 x2 x4 x5 S h.val (j 1).val (j 2).val := by
  rw [headState_apply, cdOf_eq, bStep]
  refine congrArg₂ (· + ·) (congrArg (· * _) ?_) (Finset.sum_congr rfl fun s _ => congrArg₂ (· * ·) (congrArg₂ (· * ·) ?_ ?_) ?_)
  · have h0 : (j 0).val = 0 := by have : (j 0).val < 1 := (j 0).isLt; omega
    exact (at_rect S _ _ _ S1x128x128.size inbS j).trans (RetSpec.at3_congr _ (by rw [h0]; rfl) (Nat.zero_add _) (Nat.zero_add _))
  · exact keys_block k h inb inbT x4 x5 x1 s (j 1)
  · exact decayOut_apply h _
  · exact at_rect x2 _ _ _ S1x64x128.size inb (ix3 0 s (j 2))

/-- The retention of the chunk. -/
theorem mixed_block (r : Fin 64) (e : Fin 128) :
    mixed (lgOf h) (fun j => x4 ((Rect.unit (s := S1x256x128) ![0, 64 * k.val, 0] S1x64x128.size inbT).toLoadRect.idx j))
      (fun j => x5 ((Rect.unit (s := S1x256x128) ![0, 64 * k.val, 0] S1x64x128.size inbT).toLoadRect.idx j))
      (fun j => x0 ((Rect.unit (s := S1x256x1024) ![0, 64 * k.val, 128 * h.val] S1x64x128.size inb).toLoadRect.idx j))
      (fun j => x1 ((Rect.unit (s := S1x256x1024) ![0, 64 * k.val, 128 * h.val] S1x64x128.size inb).toLoadRect.idx j))
      (fun j => x2 ((Rect.unit (s := S1x256x1024) ![0, 64 * k.val, 128 * h.val] S1x64x128.size inb).toLoadRect.idx j))
      (fun j => S ((Rect.unit (s := S8x128x128) ![h.val, 0, 0] S1x128x128.size inbS).toLoadRect.idx j)) (ix2 r e)
    = bMix k.val x0 x1 x2 x4 x5 S h.val r.val e.val := by
  rw [mixed_apply, bMix]
  refine congrArg₂ (· + ·) (Finset.sum_congr rfl fun s _ => congrArg₂ (· * ·) (congrArg₂ (· * ·) (Finset.sum_congr rfl fun d _ =>
    congrArg₂ (· * ·) ?_ ?_) ?_) ?_) (congrArg₂ (· * ·) (Finset.sum_congr rfl fun d _ => congrArg₂ (· * ·) ?_ ?_) ?_)
  · exact turned_block k h inb inbT x4 x5 x0 r d
  · exact keys_block k h inb inbT x4 x5 x1 s d
  · exact decay_apply h _
  · exact at_rect x2 _ _ _ S1x64x128.size inb (ix3 0 s e)
  · exact turned_block k h inb inbT x4 x5 x0 r d
  · exact (at_rect S _ _ _ S1x128x128.size inbS (ix3 0 d e)).trans (RetSpec.at3_congr _ rfl (Nat.zero_add _) (Nat.zero_add _))
  · exact decayIn_apply h _

/-- The output of a head, of the chunk. -/
theorem headOut_block (j : S1x64x128.Idx) :
    headOut (lgOf h) (fun j => x4 ((Rect.unit (s := S1x256x128) ![0, 64 * k.val, 0] S1x64x128.size inbT).toLoadRect.idx j))
      (fun j => x5 ((Rect.unit (s := S1x256x128) ![0, 64 * k.val, 0] S1x64x128.size inbT).toLoadRect.idx j))
      (fun j => x0 ((Rect.unit (s := S1x256x1024) ![0, 64 * k.val, 128 * h.val] S1x64x128.size inb).toLoadRect.idx j))
      (fun j => x1 ((Rect.unit (s := S1x256x1024) ![0, 64 * k.val, 128 * h.val] S1x64x128.size inb).toLoadRect.idx j))
      (fun j => x2 ((Rect.unit (s := S1x256x1024) ![0, 64 * k.val, 128 * h.val] S1x64x128.size inb).toLoadRect.idx j))
      (fun j => x3 ((Rect.unit (s := S1x256x1024) ![0, 64 * k.val, 128 * h.val] S1x64x128.size inb).toLoadRect.idx j))
      (fun j => x6 ((Rect.unit (s := S1x1024) ![0, 128 * h.val] S1x128.size inbN).toLoadRect.idx j))
      (fun j => S ((Rect.unit (s := S8x128x128) ![h.val, 0, 0] S1x128x128.size inbS).toLoadRect.idx j)) j
    = RetSpec.normed (fun x => bMix k.val x0 x1 x2 x4 x5 S h.val (j 1).val x.val) (j 2)
      * x6 (ix2 0 ⟨128 * h.val + (j 2).val, by have := h.isLt; have : (j 2).val < 128 := (j 2).isLt; omega⟩)
      * (x3 ((Rect.unit (s := S1x256x1024) ![0, 64 * k.val, 128 * h.val] S1x64x128.size inb).emb j)
        * Ideal.div 1 (1 + Ideal.exp (0 - x3 ((Rect.unit (s := S1x256x1024) ![0, 64 * k.val, 128 * h.val] S1x64x128.size inb).emb j)))) := by
  rw [headOut_apply]
  refine congrArg₂ (· * ·) (congrArg₂ (· * ·) ?_ (congrArg x6 ?_)) rfl
  · exact congrArg (RetSpec.normed · (j 2)) (funext fun x => mixed_block k h inb inbT inbS x0 x1 x2 x4 x5 S (j 1) x)
  · funext a
    refine Fin.ext ?_
    fin_cases a
    · rfl
    · exact congrArg (128 * h.val + ·) (Nat.one_mul _)

/-- The store of a head into the running state is a block of the next state. -/
theorem statePiece_apply (off offT offS : Fin 3 → ℕ) (ho : off = ![0, 64 * k.val, 128 * h.val]) (ht : offT = ![0, 64 * k.val, 0])
    (hs : offS = ![h.val, 0, 0]) (inb) (inbT) (inbS) (j) :
    (statePiece h off inb offT inbT offS inbS x0 x1 x2 x3 x4 x5 x6 S).2 j
      = bState k.val x1 x2 x4 x5 S ((statePiece h off inb offT inbT offS inbS x0 x1 x2 x3 x4 x5 x6 S).1.emb j) := by
  subst ho ht hs
  refine (headState_block k h inb inbT inbS x1 x2 x4 x5 S j).trans ?_
  have h0 : (j 0).val = 0 := by have : (j 0).val < 1 := (j 0).isLt; omega
  show bStep k.val x1 x2 x4 x5 S h.val (j 1).val (j 2).val
    = bStep k.val x1 x2 x4 x5 S (h.val + 1 * (j 0).val) (0 + 1 * (j 1).val) (0 + 1 * (j 2).val)
  rw [h0, Nat.mul_zero, Nat.add_zero, Nat.zero_add, Nat.one_mul, Nat.zero_add, Nat.one_mul]

/-- The store of a head into the output block is a block of the output. -/
theorem outPiece_apply (T : ℕ → Vec Ideal S8x128x128 .f32) (hT : T k.val = S) (off offT offS : Fin 3 → ℕ) (offN : Fin 2 → ℕ)
    (ho : off = ![0, 64 * k.val, 128 * h.val]) (ht : offT = ![0, 64 * k.val, 0])
    (hn : offN = ![0, 128 * h.val]) (hs : offS = ![h.val, 0, 0]) (inb) (inbT) (inbN) (inbS) (j) :
    (outPiece h off inb offT inbT offN inbN offS inbS x0 x1 x2 x3 x4 x5 x6 S).2 j
      = bOut x0 x1 x2 x3 x4 x5 x6 T ((outPiece h off inb offT inbT offN inbN offS inbS x0 x1 x2 x3 x4 x5 x6 S).1.emb j) := by
  subst ho ht hs hn hT
  refine (headOut_block k h inb inbT inbN inbS x0 x1 x2 x3 x4 x5 x6 _ j).trans ?_
  have h1 : (j 1).val < 64 := (j 1).isLt
  have h2 : (j 2).val < 128 := (j 2).isLt
  unfold bOut
  refine congrArg₂ (· * ·) (congrArg₂ (· * ·) ?_ ?_) rfl
  · have a1 : (64 * k.val + 1 * (j 1).val) / 64 = k.val := by omega
    have a2 : (64 * k.val + 1 * (j 1).val) % 64 = (j 1).val := by omega
    have a3 : (128 * h.val + 1 * (j 2).val) / 128 = h.val := by omega
    have a4 : (128 * h.val + 1 * (j 2).val) % 128 = (j 2).val := by omega
    refine congrArg₂ RetSpec.normed (funext fun x => ?_) (Fin.ext a4.symm)
    show bMix k.val x0 x1 x2 x4 x5 (T k.val) h.val (j 1).val x.val = bMix ((64 * k.val + 1 * (j 1).val) / 64) x0 x1 x2 x4 x5
      (T ((64 * k.val + 1 * (j 1).val) / 64)) ((128 * h.val + 1 * (j 2).val) / 128) ((64 * k.val + 1 * (j 1).val) % 64) x.val
    rw [a1, a2, a3]
  · exact congrArg (fun z => x6 (ix2 0 z)) (Fin.ext (congrArg (128 * h.val + ·) (Nat.one_mul _).symm))
end

/-- All the stores of a chunk into the running state are blocks of the next state. -/
theorem statePieces_apply (k : Fin k0_t1_loop.trips) (x0 : Vec Ideal S1x256x1024 .f32) (x1 : Vec Ideal S1x256x1024 .f32) (x2 : Vec Ideal S1x256x1024 .f32) (x3 : Vec Ideal S1x256x1024 .f32) (x4 : Vec Ideal S1x256x128 .f32) (x5 : Vec Ideal S1x256x128 .f32) (x6 : Vec Ideal S1x1024 .f32) (S : Vec Ideal S8x128x128 .f32) :
    ∀ p ∈ statePieces k x0 x1 x2 x3 x4 x5 x6 S, ∀ j, p.2 j = bState k.val x1 x2 x4 x5 S (p.1.emb j) := by
  obtain ⟨o1, o2, o3, o4, o5, o6, o7, o8, o9⟩ := offs k
  simp only [statePieces, List.forall_mem_cons]
  refine ⟨?_, ?_, ?_, ?_, ?_, ?_, ?_, ?_, fun p hp => absurd hp List.not_mem_nil⟩
  · exact fun j => statePiece_apply k 7 x0 x1 x2 x3 x4 x5 x6 S _ _ _ o9 o1 rfl _ _ _ j
  · exact fun j => statePiece_apply k 6 x0 x1 x2 x3 x4 x5 x6 S _ _ _ o8 o1 rfl _ _ _ j
  · exact fun j => statePiece_apply k 5 x0 x1 x2 x3 x4 x5 x6 S _ _ _ o7 o1 rfl _ _ _ j
  · exact fun j => statePiece_apply k 4 x0 x1 x2 x3 x4 x5 x6 S _ _ _ o6 o1 rfl _ _ _ j
  · exact fun j => statePiece_apply k 3 x0 x1 x2 x3 x4 x5 x6 S _ _ _ o5 o1 rfl _ _ _ j
  · exact fun j => statePiece_apply k 2 x0 x1 x2 x3 x4 x5 x6 S _ _ _ o4 o1 rfl _ _ _ j
  · exact fun j => statePiece_apply k 1 x0 x1 x2 x3 x4 x5 x6 S _ _ _ o3 o1 rfl _ _ _ j
  · exact fun j => statePiece_apply k 0 x0 x1 x2 x3 x4 x5 x6 S _ _ _ o2 o1 rfl _ _ _ j

/-- All the stores of a chunk into the output block are blocks of the output. -/
theorem outPieces_apply (k : Fin k0_t1_loop.trips) (x0 : Vec Ideal S1x256x1024 .f32) (x1 : Vec Ideal S1x256x1024 .f32) (x2 : Vec Ideal S1x256x1024 .f32) (x3 : Vec Ideal S1x256x1024 .f32) (x4 : Vec Ideal S1x256x128 .f32) (x5 : Vec Ideal S1x256x128 .f32) (x6 : Vec Ideal S1x1024 .f32) (S : Vec Ideal S8x128x128 .f32)
    (T : ℕ → Vec Ideal S8x128x128 .f32) (hT : T k.val = S) :
    ∀ p ∈ outPieces k x0 x1 x2 x3 x4 x5 x6 S, ∀ j, p.2 j = bOut x0 x1 x2 x3 x4 x5 x6 T (p.1.emb j) := by
  obtain ⟨o1, o2, o3, o4, o5, o6, o7, o8, o9⟩ := offs k
  simp only [outPieces, List.forall_mem_cons]
  refine ⟨?_, ?_, ?_, ?_, ?_, ?_, ?_, ?_, fun p hp => absurd hp List.not_mem_nil⟩
  · exact fun j => outPiece_apply k 7 x0 x1 x2 x3 x4 x5 x6 S T hT _ _ _ _ o9 o1 rfl rfl _ _ _ _ j
  · exact fun j => outPiece_apply k 6 x0 x1 x2 x3 x4 x5 x6 S T hT _ _ _ _ o8 o1 rfl rfl _ _ _ _ j
  · exact fun j => outPiece_apply k 5 x0 x1 x2 x3 x4 x5 x6 S T hT _ _ _ _ o7 o1 rfl rfl _ _ _ _ j
  · exact fun j => outPiece_apply k 4 x0 x1 x2 x3 x4 x5 x6 S T hT _ _ _ _ o6 o1 rfl rfl _ _ _ _ j
  · exact fun j => outPiece_apply k 3 x0 x1 x2 x3 x4 x5 x6 S T hT _ _ _ _ o5 o1 rfl rfl _ _ _ _ j
  · exact fun j => outPiece_apply k 2 x0 x1 x2 x3 x4 x5 x6 S T hT _ _ _ _ o4 o1 rfl rfl _ _ _ _ j
  · exact fun j => outPiece_apply k 1 x0 x1 x2 x3 x4 x5 x6 S T hT _ _ _ _ o3 o1 rfl rfl _ _ _ _ j
  · exact fun j => outPiece_apply k 0 x0 x1 x2 x3 x4 x5 x6 S T hT _ _ _ _ o2 o1 rfl rfl _ _ _ _ j

/-- The stores of a chunk into the running state cover it. -/
theorem statePieces_cover (k : Fin k0_t1_loop.trips) (x0 : Vec Ideal S1x256x1024 .f32) (x1 : Vec Ideal S1x256x1024 .f32) (x2 : Vec Ideal S1x256x1024 .f32) (x3 : Vec Ideal S1x256x1024 .f32) (x4 : Vec Ideal S1x256x128 .f32) (x5 : Vec Ideal S1x256x128 .f32) (x6 : Vec Ideal S1x1024 .f32) (S : Vec Ideal S8x128x128 .f32) (y : S8x128x128.Idx) :
    ∃ p ∈ statePieces k x0 x1 x2 x3 x4 x5 x6 S, y ∈ p.1.set :=
  View.cover_of_tiledL (statePieces k x0 x1 x2 x3 x4 x5 x6 S) S1x128x128.size (by sl_kernel_rfl) y

end Cert.RetIdeal.Gen
-- ==== Proof.RetIdealBlock.lean ====
module

public import proofs.«01_k».proof.Proof.RetIdealTrip
public import proofs.«01_k».proof.Proof.RetIdealRun
public import Idealize.ShloMosaic.Lib.Pipeline.ReadBack

/-! What the body leaves, from the windows and the state it starts from, over the extended reals: four chunks one after another. -/

@[expose] public section

set_option maxRecDepth 16384

noncomputable section

namespace Cert.RetIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The running state after the first `n` chunks of a block. -/
def bAfter (x1 x2 : Vec Ideal S1x256x1024 .f32) (x4 x5 : Vec Ideal S1x256x128 .f32) (S : Vec Ideal S8x128x128 .f32) :
    ℕ → Vec Ideal S8x128x128 .f32
  | 0 => S
  | n + 1 => bState n x1 x2 x4 x5 (bAfter x1 x2 x4 x5 S n)

section
variable (c : Dev nD) (i : grid0.Coords)
  (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S8x128x128 .f32) (harg10 : arg10.IsWhole)
  (x0 : Vec Ideal S1x256x1024 .f32) (x1 : Vec Ideal S1x256x1024 .f32) (x2 : Vec Ideal S1x256x1024 .f32) (x3 : Vec Ideal S1x256x1024 .f32) (x4 : Vec Ideal S1x256x128 .f32) (x5 : Vec Ideal S1x256x128 .f32) (x6 : Vec Ideal S1x1024 .f32) (R : Vec Ideal S8x128x128 .f32)

/-- The chunks are four. -/
theorem trips_eq : k0_t1_loop.trips = 4 := by decide +kernel

/-- After `n` chunks the scratch holds the state after `n` chunks. -/
theorem stores_state (f : BufTy.Contents (Elt Ideal) arg9.view.ty) : ∀ n, n ≤ 4 →
    arg10.view.read (Elt Ideal) (arg10.view.writes (Elt Ideal) (harg10.unread R) (stores c i arg2 harg2 arg3 harg3 arg4 harg4 arg5 harg5 arg6 harg6 arg7 harg7 arg8 harg8 arg9 harg9 arg10 harg10 x0 x1 x2 x3 x4 x5 x6 f (harg10.unread R) n).2)
      = bAfter x1 x2 x4 x5 R n
  | 0, _ => harg10.read_unread R
  | n + 1, hn => by
    have ih := stores_state f n (by omega)
    have hk : n < k0_t1_loop.trips := by rw [trips_eq]; omega
    unfold stores at ih ⊢
    rw [pb_k0_t1_succ Variants.none c none i arg2 harg2 arg3 harg3 arg4 harg4 arg5 harg5 arg6 harg6 arg7 harg7 arg8 harg8 arg9 harg9 arg10 harg10 _ _ _ _ _ _ _ _ _ ⟨n, hk⟩,
      trip_stores, View.writes_append]
    dsimp only
    rw [ih, harg2.read_unread, harg3.read_unread, harg4.read_unread, harg5.read_unread, harg6.read_unread, harg7.read_unread, harg8.read_unread]
    funext y
    rw [View.read_writes_eq_canon _ _ _ (statePieces_cover ⟨n, hk⟩ x0 x1 x2 x3 x4 x5 x6 _)]
    have e := View.canon_append_of_pieces (bState n x1 x2 x4 x5 (bAfter x1 x2 x4 x5 R n)) []
      (statePieces ⟨n, hk⟩ x0 x1 x2 x3 x4 x5 x6 (bAfter x1 x2 x4 x5 R n))
      (statePieces_apply ⟨n, hk⟩ x0 x1 x2 x3 x4 x5 x6 _) y (statePieces_cover ⟨n, hk⟩ x0 x1 x2 x3 x4 x5 x6 _ y)
    rw [List.append_nil] at e
    exact e

/-- Every store into the output block is a block of the output. -/
theorem stores_output (f : BufTy.Contents (Elt Ideal) arg9.view.ty) : ∀ n, n ≤ 4 →
    ∀ p ∈ (stores c i arg2 harg2 arg3 harg3 arg4 harg4 arg5 harg5 arg6 harg6 arg7 harg7 arg8 harg8 arg9 harg9 arg10 harg10 x0 x1 x2 x3 x4 x5 x6 f (harg10.unread R) n).1, ∀ j, p.2 j = bOut x0 x1 x2 x3 x4 x5 x6 (bAfter x1 x2 x4 x5 R) (p.1.emb j)
  | 0, _ => fun p hp => absurd hp List.not_mem_nil
  | n + 1, hn => by
    have ih := stores_output f n (by omega)
    have hs := stores_state c i arg2 harg2 arg3 harg3 arg4 harg4 arg5 harg5 arg6 harg6 arg7 harg7 arg8 harg8 arg9 harg9 arg10 harg10 x0 x1 x2 x3 x4 x5 x6 R f n (by omega)
    have hk : n < k0_t1_loop.trips := by rw [trips_eq]; omega
    unfold stores at ih hs ⊢
    rw [pb_k0_t1_succ Variants.none c none i arg2 harg2 arg3 harg3 arg4 harg4 arg5 harg5 arg6 harg6 arg7 harg7 arg8 harg8 arg9 harg9 arg10 harg10 _ _ _ _ _ _ _ _ _ ⟨n, hk⟩,
      trip_stores]
    dsimp only
    rw [hs, harg2.read_unread, harg3.read_unread, harg4.read_unread, harg5.read_unread, harg6.read_unread, harg7.read_unread, harg8.read_unread]
    intro p hp
    rcases List.mem_append.mp hp with hp | hp
    · exact outPieces_apply ⟨n, hk⟩ x0 x1 x2 x3 x4 x5 x6 _ _ rfl p hp
    · exact ih p hp

/-- The block of the output the body leaves. -/
theorem outBlock_eq : outBlock c i arg2 harg2 arg3 harg3 arg4 harg4 arg5 harg5 arg6 harg6 arg7 harg7 arg8 harg8 arg9 harg9 arg10 harg10 x0 x1 x2 x3 x4 x5 x6 R = bOut x0 x1 x2 x3 x4 x5 x6 (bAfter x1 x2 x4 x5 R) := by
  funext y
  have e := View.canon_append_of_pieces (bOut x0 x1 x2 x3 x4 x5 x6 (bAfter x1 x2 x4 x5 R)) [] (all c i arg2 harg2 arg3 harg3 arg4 harg4 arg5 harg5 arg6 harg6 arg7 harg7 arg8 harg8 arg9 harg9 arg10 harg10 x0 x1 x2 x3 x4 x5 x6 R).1
    (stores_output c i arg2 harg2 arg3 harg3 arg4 harg4 arg5 harg5 arg6 harg6 arg7 harg7 arg8 harg8 arg9 harg9 arg10 harg10 x0 x1 x2 x3 x4 x5 x6 R _ _ (le_of_eq trips_eq)) y (all_cover c i arg2 harg2 arg3 harg3 arg4 harg4 arg5 harg5 arg6 harg6 arg7 harg7 arg8 harg8 arg9 harg9 arg10 harg10 x0 x1 x2 x3 x4 x5 x6 R y)
  rw [List.append_nil] at e
  exact e

/-- The running state the body leaves. -/
theorem newState_eq : newState c i arg2 harg2 arg3 harg3 arg4 harg4 arg5 harg5 arg6 harg6 arg7 harg7 arg8 harg8 arg9 harg9 arg10 harg10 x0 x1 x2 x3 x4 x5 x6 R = bAfter x1 x2 x4 x5 R 4 :=
  (stores_state c i arg2 harg2 arg3 harg3 arg4 harg4 arg5 harg5 arg6 harg6 arg7 harg7 arg8 harg8 arg9 harg9 arg10 harg10 x0 x1 x2 x3 x4 x5 x6 R _ _ (le_of_eq trips_eq)).trans (congrArg (bAfter x1 x2 x4 x5 R) trips_eq)
end

end Cert.RetIdeal.Gen
-- ==== Proof.RetIdealFrame.lean ====
module

public import proofs.«01_k».proof.Proof.RetIdealRun
public import proofs.«01_k».proof.Proof.Gen.RetIdeal.Launch
public import proofs.«01_k».proof.Proof.Gen.RetIdeal.Points
public import Idealize.ShloMosaic.Lib.Claim

@[expose] public section

set_option maxRecDepth 16384

noncomputable section

namespace Cert.RetIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The retention runs from any memory and leaves its arguments as they were. Between the points of the grid the scratch
holds the running state: zero before the first block of a sequence, and what the block before left otherwise. -/

/-- The block of the output point `t` computes from the running state `R`. -/
def blockAt (c : Dev nD) (t : Fin cfg0.N) (R : Vec F S8x128x128 .f32) : Vec F S1x256x1024 .bf16 :=
  outBlock c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (X0_0 m c t) (X0_1 m c t) (X0_2 m c t) (X0_3 m c t) (iblk m c 4 t) (iblk m c 5 t) (iblk m c 6 t) R

/-- The running state point `t` leaves from the running state `R`. -/
def nextAt (c : Dev nD) (t : Fin cfg0.N) (R : Vec F S8x128x128 .f32) : Vec F S8x128x128 .f32 :=
  newState c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (X0_0 m c t) (X0_1 m c t) (X0_2 m c t) (X0_3 m c t) (iblk m c 4 t) (iblk m c 5 t) (iblk m c 6 t) R

/-- The running state point `n` starts from. -/
def stateBefore (c : Dev nD) : ℕ → Vec F S8x128x128 .f32
  | 0 => zeroState
  | n + 1 => if (n + 1) % 8 = 0 then zeroState
      else if h : n < cfg0.N then nextAt m c ⟨n, h⟩ (stateBefore c n) else zeroState

/-- The running state point `t` leaves. -/
def stateAfter (c : Dev nD) (t : Fin cfg0.N) : Vec F S8x128x128 .f32 := nextAt m c t (stateBefore m c t.val)

theorem stateBefore_first (c : Dev nD) (n : ℕ) (h : n % 8 = 0) : stateBefore m c n = zeroState := by
  cases n with
  | zero => rfl
  | succ n => exact if_pos h

theorem stateBefore_later (c : Dev nD) (n : ℕ) (hn : n < cfg0.N) (h : ¬(n + 1) % 8 = 0) :
    stateBefore m c (n + 1) = stateAfter m c ⟨n, hn⟩ :=
  (if_neg h).trans (dif_pos hn)

/-- What the scratch holds before point `n`: anything before the first, then what the point before left. -/
def PhiS (c : Dev nD) : (n : ℕ) → n ≤ cfg0.N → sProp 𝕄
  | 0, _ => Pipeline.ΦA spec0 c
  | n + 1, hn => iprop(iprop(owns (c : Thread nD τ) scM0_0 fullShare (stateAfter m c ⟨n, hn⟩)) ∗ (∃ r, prngReg c r))

/-- The data of the pipeline: the arrays as the launch finds them, each window's buffer after the body, the scratch. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => blockAt m c t (stateBefore m c t.val)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = blockAt m c t (stateBefore m c t.val) := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any point: at the first block of a sequence it starts from zero, at a later one from what the scratch holds. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl,
    show PhiS m c (t.val + 1) t.isLt = iprop(iprop(owns (c : Thread nD τ) scM0_0 fullShare (stateAfter m c t)) ∗ (∃ r, prngReg c r)) from rfl,
    PhiS_castSucc m c t]
  unfold stateAfter blockAt nextAt
  by_cases h0 : t.val % 8 = 0
  · rw [stateBefore_first m c _ h0]
    have hΦ : PhiS m c t.val (Nat.le_of_lt t.isLt)
        ⊢ iprop(iprop((∃ d, owns (c : Thread nD τ) scM0_0 fullShare d)) ∗ (∃ r, prngReg c r)) := by
      obtain ⟨n, hn⟩ := t
      cases n with
      | zero => exact (PhiA0_eq c).le
      | succ n =>
        unfold PhiS
        iintro ⟨HS0, Hg⟩
        isplitl [HS0]
        · iexists _; iexact HS0
        iexact Hg
    refine (Idealize.SL.BI.Laws.sep_mono hΦ (Idealize.SL.BI.Entails.refl _)).trans ?_
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t) _ _ _ _ _ _ _ _ _ _ _ _ _ _ _ _ _ _ ((hcond0_0 t).mpr h0) (X0_0 m c t) (X0_1 m c t) (X0_2 m c t) (X0_3 m c t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hs : PhiS m c t.val (Nat.le_of_lt t.isLt)
        = iprop(iprop(owns (c : Thread nD τ) scM0_0 fullShare (stateBefore m c t.val)) ∗ (∃ r, prngReg c r)) := by
      obtain ⟨n, hn⟩ := t
      cases n with
      | zero => exact absurd rfl h0
      | succ n => rw [stateBefore_later m c n (Nat.lt_of_succ_lt hn) h0]; rfl
    rw [hs]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runB c (grid0.coords t) _ _ _ _ _ _ _ _ _ _ _ _ _ _ _ _ _ _ (fun h => h0 ((hcond0_0 t).mp h)) (X0_0 m c t) (X0_1 m c t) (X0_2 m c t) (X0_3 m c t) (iblk m c 4 t) (iblk m c 5 t) (iblk m c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

/-- After the last point the scratch's contents are forgotten. -/
theorem hout (c : Dev nD) : (dats m 0 c).Φ (Fin.last cfg0.N) ⊢ Pipeline.ΦA spec0 c := by
  have h : ∀ (n : ℕ) (hn : n ≤ cfg0.N), n ≠ 0 → PhiS m c n hn ⊢ Pipeline.ΦA spec0 c := by
    intro n hn hz
    rw [PhiA0_eq]
    cases n with
    | zero => exact absurd rfl hz
    | succ n =>
      unfold PhiS
      iintro ⟨HS0, Hg⟩
      isplitl [HS0]
      · iexists _; iexact HS0
      iexact Hg
  exact h cfg0.N le_rfl (by have : cfg0.N = 32 := N_0; omega)

set_option backward.isDefEq.respectTransparency.types false in
/-- The launch: every execution ends with the arrays at what the pipeline's data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.RetIdeal.Gen

end
-- ==== Proof.RetIdealWin.lean ====
/- The blocks the retention's grid points work on, as entries of its arguments. -/
module

public import proofs.«01_k».proof.Proof.RetIdealBlock
public import proofs.«01_k».proof.Proof.RetIdealFrame
public import Idealize.ShloMosaic.Lib.StableHlo.RunRead

@[expose] public section

set_option maxRecDepth 16384

noncomputable section

namespace Cert.RetIdeal.Gen

open Idealize.ShloMosaic Idealize.ShloMosaic.TcCoe Idealize.SL.Sem Idealize.ShloMosaic.StableHlo

variable (m : (ℓ : Loc nD τ sig) → Buf (Elt Ideal) ℓ) (c : Dev nD)

/-- The arguments. -/
abbrev inP : Vec Ideal S4x2048x8320 .f32 := m ((c : Thread nD τ).loc main_arg0)
abbrev inC : Vec Ideal S4x2048x64 .f32 := m ((c : Thread nD τ).loc main_arg1)
abbrev inN : Vec Ideal S4x2048x64 .f32 := m ((c : Thread nD τ).loc main_arg2)
abbrev inG : Vec Ideal S1024 .f32 := m ((c : Thread nD τ).loc main_arg3)

/-- Which blocks grid point `t` works on. -/
theorem idx : ∀ t : Fin cfg0.N, win0_0.index t = ![t.val / 8, t.val % 8, 0] ∧ win0_1.index t = ![t.val / 8, t.val % 8, 1]
    ∧ win0_2.index t = ![t.val / 8, t.val % 8, 2] ∧ win0_3.index t = ![t.val / 8, t.val % 8, 3]
    ∧ win0_4.index t = ![t.val / 8, t.val % 8, 0] ∧ win0_5.index t = ![t.val / 8, t.val % 8, 0] ∧ win0_6.index t = ![0, 0]
    ∧ win0_7.index t = ![t.val / 8, t.val % 8, 0] :=
  (by decide +kernel : ∀ t : Fin grid0.N, _)

/-- The block of the queries' columns. -/
theorem block0 (t : Fin cfg0.N) (y : S1x256x1024.Idx) :
    X0_0 m c t y = RetSpec.at3 (inP m c) (t.val / 8) (256 * (t.val % 8) + (y 1).val) (y 2).val := by
  unfold X0_0 Pipeline.Window.fill
  rw [dif_pos (moved0_0 t y)]
  have h0 : (y 0).val < 1 := (y 0).isLt
  have e := (idx t).1
  show V m c main_arg0 _ = _
  rw [V_main_arg0]
  refine (RetSpec.at3_eq _ _).trans (RetSpec.at3_congr _ ?_ ?_ ?_)
  · show win0_0.index t 0 * 1 + 1 * (y 0).val = _
    rw [e]; dsimp; omega
  · show win0_0.index t 1 * 256 + 1 * (y 1).val = _
    rw [e]; dsimp; omega
  · show win0_0.index t 2 * 1024 + 1 * (y 2).val = _
    rw [e]; dsimp; omega

/-- The doubled cosines, and the signed sines. -/
theorem cos_read (i : S4x2048x128.Idx) : (V m c main_v0 : Vec Ideal S4x2048x128 .f32) i
    = RetSpec.at3 (inC m c) (i 0).val (i 1).val ((i 2).val % 64) := by
  have h2 : (i 2).val < 128 := (i 2).isLt
  unfold V
  after_reads_simp
  pointwise
  by_cases h : (i 2).val < 64
  · rw [dif_pos h]
    pointwise
    exact (RetSpec.at3_eq _ _).trans (RetSpec.at3_congr _ rfl rfl (by dsimp <;> omega))
  · rw [dif_neg h]
    pointwise
    exact (RetSpec.at3_eq _ _).trans (RetSpec.at3_congr _ rfl rfl (by dsimp <;> omega))

theorem sin_read (i : S4x2048x128.Idx) : (V m c main_v2 : Vec Ideal S4x2048x128 .f32) i
    = if (i 2).val < 64 then - RetSpec.at3 (inN m c) (i 0).val (i 1).val (i 2).val
      else RetSpec.at3 (inN m c) (i 0).val (i 1).val ((i 2).val - 64) := by
  have h2 : (i 2).val < 128 := (i 2).isLt
  unfold V
  after_reads_simp
  pointwise
  by_cases h : (i 2).val < 64
  · rw [dif_pos h, if_pos h]
    pointwise
    exact congrArg (fun z : EReal => -z) ((RetSpec.at3_eq _ _).trans (RetSpec.at3_congr _ rfl rfl (by dsimp <;> omega)))
  · rw [dif_neg h, if_neg h]
    pointwise
    exact (RetSpec.at3_eq _ _).trans (RetSpec.at3_congr _ rfl rfl (by dsimp <;> omega))

theorem norm_read (i : S1x1024.Idx) : (V m c main_v3 : Vec Ideal S1x1024 .f32) i = RetSpec.at1 (inG m c) (i 1).val := by
  unfold V
  after_reads_simp
  pointwise
  exact RetSpec.at1_eq _ _

/-- The blocks of the keys', the values' and the gates' columns. -/
theorem block1 (t : Fin cfg0.N) (y : S1x256x1024.Idx) :
    X0_1 m c t y = RetSpec.at3 (inP m c) (t.val / 8) (256 * (t.val % 8) + (y 1).val) (1024 + (y 2).val) := by
  unfold X0_1 Pipeline.Window.fill
  rw [dif_pos (moved0_1 t y)]
  have h0 : (y 0).val < 1 := (y 0).isLt
  have e := (idx t).2.1
  show V m c main_arg0 _ = _
  rw [V_main_arg0]
  refine (RetSpec.at3_eq _ _).trans (RetSpec.at3_congr _ ?_ ?_ ?_)
  · show win0_1.index t 0 * 1 + 1 * (y 0).val = _
    rw [e]; dsimp; omega
  · show win0_1.index t 1 * 256 + 1 * (y 1).val = _
    rw [e]; dsimp; omega
  · show win0_1.index t 2 * 1024 + 1 * (y 2).val = _
    rw [e]; dsimp; omega

theorem block2 (t : Fin cfg0.N) (y : S1x256x1024.Idx) :
    X0_2 m c t y = RetSpec.at3 (inP m c) (t.val / 8) (256 * (t.val % 8) + (y 1).val) (2048 + (y 2).val) := by
  unfold X0_2 Pipeline.Window.fill
  rw [dif_pos (moved0_2 t y)]
  have h0 : (y 0).val < 1 := (y 0).isLt
  have e := (idx t).2.2.1
  show V m c main_arg0 _ = _
  rw [V_main_arg0]
  refine (RetSpec.at3_eq _ _).trans (RetSpec.at3_congr _ ?_ ?_ ?_)
  · show win0_2.index t 0 * 1 + 1 * (y 0).val = _
    rw [e]; dsimp; omega
  · show win0_2.index t 1 * 256 + 1 * (y 1).val = _
    rw [e]; dsimp; omega
  · show win0_2.index t 2 * 1024 + 1 * (y 2).val = _
    rw [e]; dsimp; omega

theorem block3 (t : Fin cfg0.N) (y : S1x256x1024.Idx) :
    X0_3 m c t y = RetSpec.at3 (inP m c) (t.val / 8) (256 * (t.val % 8) + (y 1).val) (3072 + (y 2).val) := by
  unfold X0_3 Pipeline.Window.fill
  rw [dif_pos (moved0_3 t y)]
  have h0 : (y 0).val < 1 := (y 0).isLt
  have e := (idx t).2.2.2.1
  show V m c main_arg0 _ = _
  rw [V_main_arg0]
  refine (RetSpec.at3_eq _ _).trans (RetSpec.at3_congr _ ?_ ?_ ?_)
  · show win0_3.index t 0 * 1 + 1 * (y 0).val = _
    rw [e]; dsimp; omega
  · show win0_3.index t 1 * 256 + 1 * (y 1).val = _
    rw [e]; dsimp; omega
  · show win0_3.index t 2 * 1024 + 1 * (y 2).val = _
    rw [e]; dsimp; omega

/-- The blocks of the doubled cosines and the signed sines. -/
theorem block4 (t : Fin cfg0.N) (y : S1x256x128.Idx) :
    (iblk m c 4 t : Vec Ideal S1x256x128 .f32) y
    = RetSpec.at3 (inC m c) (t.val / 8) (256 * (t.val % 8) + (y 1).val) ((y 2).val % 64) := by
  have h0 : (y 0).val < 1 := (y 0).isLt
  have e := (idx t).2.2.2.2.1
  show (V m c main_v0 : Vec Ideal S4x2048x128 .f32) (((cfg0.win 4).blk t).view.emb y) = _
  rw [cos_read]
  refine RetSpec.at3_congr _ ?_ ?_ (congrArg (· % 64) ?_)
  · show win0_4.index t 0 * 1 + 1 * (y 0).val = _
    rw [e]; dsimp; omega
  · show win0_4.index t 1 * 256 + 1 * (y 1).val = _
    rw [e]; dsimp; omega
  · show win0_4.index t 2 * 128 + 1 * (y 2).val = _
    rw [e]; dsimp; omega

theorem block5 (t : Fin cfg0.N) (y : S1x256x128.Idx) :
    (iblk m c 5 t : Vec Ideal S1x256x128 .f32) y
    = if (y 2).val < 64 then - RetSpec.at3 (inN m c) (t.val / 8) (256 * (t.val % 8) + (y 1).val) (y 2).val
      else RetSpec.at3 (inN m c) (t.val / 8) (256 * (t.val % 8) + (y 1).val) ((y 2).val - 64) := by
  have h0 : (y 0).val < 1 := (y 0).isLt
  have e := (idx t).2.2.2.2.2.1
  have e0 : (((cfg0.win 5).blk t).view.emb y 0).val = t.val / 8 := by
    show win0_5.index t 0 * 1 + 1 * (y 0).val = _
    rw [e]; dsimp; omega
  have e1 : (((cfg0.win 5).blk t).view.emb y 1).val = 256 * (t.val % 8) + (y 1).val := by
    show win0_5.index t 1 * 256 + 1 * (y 1).val = _
    rw [e]; dsimp; omega
  have e2 : (((cfg0.win 5).blk t).view.emb y 2).val = (y 2).val := by
    show win0_5.index t 2 * 128 + 1 * (y 2).val = _
    rw [e]; dsimp; omega
  show (V m c main_v2 : Vec Ideal S4x2048x128 .f32) (((cfg0.win 5).blk t).view.emb y) = _
  refine (sin_read m c _).trans ?_
  rw [e0, e1, e2]

/-- The norm's scale. -/
theorem block6 (t : Fin cfg0.N) (y : S1x1024.Idx) : (iblk m c 6 t : Vec Ideal S1x1024 .f32) y = RetSpec.at1 (inG m c) (y 1).val := by
  have e := (idx t).2.2.2.2.2.2.1
  have e1 : (((cfg0.win 6).blk t).view.emb y 1).val = (y 1).val := by
    show win0_6.index t 1 * 1024 + 1 * (y 1).val = _
    rw [e]; dsimp; omega
  show (V m c main_v3 : Vec Ideal S1x1024 .f32) (((cfg0.win 6).blk t).view.emb y) = _
  refine (norm_read m c _).trans ?_
  rw [e1]

/-- Every place of the result is one of the block of its point. -/
theorem place7 (t : Fin cfg0.N) (y : S1x256x1024.Idx) : (((cfg0.win 7).blk t).view.emb y 0).val = t.val / 8
    ∧ (((cfg0.win 7).blk t).view.emb y 1).val = 256 * (t.val % 8) + (y 1).val ∧ (((cfg0.win 7).blk t).view.emb y 2).val = (y 2).val := by
  have h0 : (y 0).val < 1 := (y 0).isLt
  have e := (idx t).2.2.2.2.2.2.2
  refine ⟨?_, ?_, ?_⟩
  · show win0_7.index t 0 * 1 + 1 * (y 0).val = _
    rw [e]; dsimp; omega
  · show win0_7.index t 1 * 256 + 1 * (y 1).val = _
    rw [e]; dsimp; omega
  · show win0_7.index t 2 * 1024 + 1 * (y 2).val = _
    rw [e]; dsimp; omega

end Cert.RetIdeal.Gen
-- ==== Proof.RetIdealValue.lean ====
/- The value of the retention: the running state between its grid points, and the array it returns. -/
module

public import proofs.«01_k».proof.Proof.RetIdealWin

@[expose] public section

set_option maxRecDepth 16384

noncomputable section

namespace Cert.RetIdeal.Gen

open Idealize.ShloMosaic Idealize.ShloMosaic.TcCoe Idealize.SL.Sem Idealize.ShloMosaic.StableHlo
open Cert.RetSpec (at3 at3_eq at3_congr at1 at1_eq)

variable (m : (ℓ : Loc nD τ sig) → Buf (Elt Ideal) ℓ) (c : Dev nD) (t : Fin cfg0.N)

/-- An entry within a block whose columns begin at column `o` of the projection. -/
theorem entry_of {o : ℕ} {x : Vec Ideal S1x256x1024 .f32}
    (hx : ∀ y : S1x256x1024.Idx, x y = at3 (inP m c) (t.val / 8) (256 * (t.val % 8) + (y 1).val) (o + (y 2).val))
    {i j : ℕ} (hi : i < 256) (hj : j < 1024) : at3 x 0 i j = at3 (inP m c) (t.val / 8) (256 * (t.val % 8) + i) (o + j) := by
  refine (dif_pos (show 0 < 1 ∧ i < 256 ∧ j < 1024 from ⟨Nat.one_pos, hi, hj⟩)).trans ?_
  exact hx _

/-- The entries within the blocks of cosines and sines. -/
theorem cos_of {i d : ℕ} (hi : i < 256) (hd : d < 128) : at3 (iblk m c 4 t : Vec Ideal S1x256x128 .f32) 0 i d
    = at3 (inC m c) (t.val / 8) (256 * (t.val % 8) + i) (d % 64) := by
  refine (dif_pos (show 0 < 1 ∧ i < 256 ∧ d < 128 from ⟨Nat.one_pos, hi, hd⟩)).trans ?_
  exact block4 m c t _
theorem sin_of {i d : ℕ} (hi : i < 256) (hd : d < 128) : at3 (iblk m c 5 t : Vec Ideal S1x256x128 .f32) 0 i d
    = if d < 64 then - at3 (inN m c) (t.val / 8) (256 * (t.val % 8) + i) d else at3 (inN m c) (t.val / 8) (256 * (t.val % 8) + i) (d - 64) := by
  refine (dif_pos (show 0 < 1 ∧ i < 256 ∧ d < 128 from ⟨Nat.one_pos, hi, hd⟩)).trans ?_
  exact block5 m c t _

/-- The turned vectors of a block are the sequence's at the block's positions. -/
theorem turn_of {o : ℕ} {x : Vec Ideal S1x256x1024 .f32}
    (hx : ∀ y : S1x256x1024.Idx, x y = at3 (inP m c) (t.val / 8) (256 * (t.val % 8) + (y 1).val) (o + (y 2).val))
    {i h d : ℕ} (hi : i < 256) (hh : h < 8) (hd : d < 128) :
    bTurn x (iblk m c 4 t) (iblk m c 5 t) i h d
    = RetSpec.turn (inP m c) (inC m c) (inN m c) o (t.val / 8) (256 * (t.val % 8) + i) h d := by
  unfold bTurn RetSpec.turn
  rw [entry_of m c t hx hi (show 128 * h + d < 1024 by omega), entry_of m c t hx hi (show 128 * h + (d + 64) % 128 < 1024 by omega),
    cos_of m c t hi hd, sin_of m c t hi hd, Nat.add_assoc o (128 * h) d]
  by_cases e : d < 64
  · rw [if_pos e, if_pos e, Nat.mod_eq_of_lt e, Nat.mod_eq_of_lt (show d + 64 < 128 by omega), mul_neg, ← sub_eq_add_neg,
      Nat.add_assoc o (128 * h) (d + 64)]
  · rw [if_neg e, if_neg e, show d % 64 = d - 64 by omega, show (d + 64) % 128 = d - 64 by omega, add_comm,
      Nat.add_assoc o (128 * h) (d - 64)]

/-- The queries, keys and values of a block. -/
theorem query_of {i h d : ℕ} (hi : i < 256) (hh : h < 8) (hd : d < 128) : bTurn (X0_0 m c t) (iblk m c 4 t) (iblk m c 5 t) i h d
    = RetSpec.query (inP m c) (inC m c) (inN m c) (t.val / 8) (256 * (t.val % 8) + i) h d :=
  turn_of m c t (fun y => (block0 m c t y).trans (at3_congr _ rfl rfl (Nat.zero_add _).symm)) hi hh hd
theorem key_of {i h d : ℕ} (hi : i < 256) (hh : h < 8) (hd : d < 128) : bKey (X0_1 m c t) (iblk m c 4 t) (iblk m c 5 t) i h d
    = RetSpec.key (inP m c) (inC m c) (inN m c) (t.val / 8) (256 * (t.val % 8) + i) h d :=
  congrArg (· * _) (turn_of m c t (block1 m c t) hi hh hd)
theorem value_of {i h e : ℕ} (hi : i < 256) (hh : h < 8) (he : e < 128) : at3 (X0_2 m c t : Vec Ideal S1x256x1024 .f32) 0 i (128 * h + e)
    = RetSpec.value (inP m c) (t.val / 8) (256 * (t.val % 8) + i) h e :=
  (entry_of m c t (block2 m c t) hi (by omega)).trans (at3_congr _ rfl rfl (by omega))

/-- The running state after the first chunks of a block, from the recurrence's before the block. -/
theorem after_of (R : Vec Ideal S8x128x128 .f32) (hR : ∀ y : S8x128x128.Idx, R y
      = RetSpec.state (inP m c) (inC m c) (inN m c) (t.val / 8) (y 0).val (4 * (t.val % 8)) (y 1).val (y 2).val) :
    ∀ n, n ≤ 4 → ∀ y : S8x128x128.Idx, bAfter (X0_1 m c t) (X0_2 m c t) (iblk m c 4 t) (iblk m c 5 t) R n y
      = RetSpec.state (inP m c) (inC m c) (inN m c) (t.val / 8) (y 0).val (4 * (t.val % 8) + n) (y 1).val (y 2).val
  | 0, _, y => hR y
  | n + 1, hn, y => by
    have h0 : (y 0).val < 8 := (y 0).isLt
    have h1 : (y 1).val < 128 := (y 1).isLt
    have h2 : (y 2).val < 128 := (y 2).isLt
    show bStep n _ _ _ _ (bAfter (X0_1 m c t) (X0_2 m c t) (iblk m c 4 t) (iblk m c 5 t) R n) (y 0).val (y 1).val (y 2).val = _
    unfold bStep
    rw [← at3_eq, after_of R hR n (by omega) y]
    show _ = _ * _ + ∑ s : Fin 64, _
    refine congrArg (_ + ·) (Finset.sum_congr rfl fun s _ => ?_)
    have hs := s.isLt
    rw [key_of m c t (show 64 * n + s.val < 256 by omega) h0 h1, value_of m c t (show 64 * n + s.val < 256 by omega) h0 h2,
      show 256 * (t.val % 8) + (64 * n + s.val) = 64 * (4 * (t.val % 8) + n) + s.val by omega]
    rfl

/-- Before a grid point the scratch holds the recurrence's state before the point's first chunk. -/
theorem before_of : ∀ n, n < 32 → ∀ y : S8x128x128.Idx, stateBefore m c n y
      = RetSpec.state (inP m c) (inC m c) (inN m c) (n / 8) (y 0).val (4 * (n % 8)) (y 1).val (y 2).val := by
  have hz : ∀ (n : ℕ) (h : n % 8 = 0) (y : S8x128x128.Idx), stateBefore m c n y
      = RetSpec.state (inP m c) (inC m c) (inN m c) (n / 8) (y 0).val (4 * (n % 8)) (y 1).val (y 2).val := fun n h y => by
    rw [stateBefore_first m c n h, h]
    show (zeroState : Vec Ideal S8x128x128 .f32) y = (0 : EReal)
    unfold zeroState
    pointwise [k0_pay1]
  intro n
  induction n with
  | zero => exact fun _ y => hz 0 rfl y
  | succ n ih =>
    intro hn y
    by_cases h : (n + 1) % 8 = 0
    · exact hz _ h y
    · have hN : n < cfg0.N := lt_of_lt_of_eq (show n < 32 by omega) N_0.symm
      rw [stateBefore_later m c n hN h]
      unfold stateAfter nextAt
      rw [newState_eq, after_of m c ⟨n, hN⟩ _ (ih (by omega)) 4 le_rfl y]
      show RetSpec.state _ _ _ (n / 8) _ (4 * (n % 8) + 4) _ _ = _
      rw [show n / 8 = (n + 1) / 8 by omega, show 4 * (n % 8) + 4 = 4 * ((n + 1) % 8) by omega]

/-- The retention of a block is the sequence's. -/
theorem mix_of (S : Vec Ideal S8x128x128 .f32) {k h r e : ℕ} (hk : k < 4) (hh : h < 8) (hr : r < 64) (he : e < 128)
    (hS : ∀ y : S8x128x128.Idx, S y
      = RetSpec.state (inP m c) (inC m c) (inN m c) (t.val / 8) (y 0).val (4 * (t.val % 8) + k) (y 1).val (y 2).val) :
    bMix k (X0_0 m c t) (X0_1 m c t) (X0_2 m c t) (iblk m c 4 t) (iblk m c 5 t) S h r e
    = RetSpec.mix (inP m c) (inC m c) (inN m c) (t.val / 8) (4 * (t.val % 8) + k) h r e := by
  have p : ∀ s : ℕ, 256 * (t.val % 8) + (64 * k + s) = 64 * (4 * (t.val % 8) + k) + s := fun s => by omega
  unfold bMix RetSpec.mix
  refine congrArg₂ (· + ·) (Finset.sum_congr rfl fun s _ => ?_) (congrArg (fun z : EReal => z * _) (Finset.sum_congr rfl fun d _ => ?_))
  · have hs := s.isLt
    rw [value_of m c t (show 64 * k + s.val < 256 by omega) hh he, p]
    refine congrArg (fun z : EReal => z * _) (congrArg (fun z : EReal => z * _) (Finset.sum_congr rfl fun d _ => ?_))
    rw [query_of m c t (show 64 * k + r < 256 by omega) hh d.isLt, key_of m c t (show 64 * k + s.val < 256 by omega) hh d.isLt, p, p]
  · rw [query_of m c t (show 64 * k + r < 256 by omega) hh d.isLt, p]
    have e1 : at3 S h d.val e = RetSpec.state (inP m c) (inC m c) (inN m c) (t.val / 8) h (4 * (t.val % 8) + k) d.val e :=
      (dif_pos (show h < 8 ∧ d.val < 128 ∧ e < 128 from ⟨hh, d.isLt, he⟩)).trans (hS _)
    rw [e1]

/-- One entry of the block that point `t` stores is the retention's at the block's place in the array. -/
theorem point (y : S1x256x1024.Idx) : blockAt m c t (stateBefore m c t.val) y
    = RetSpec.result (inP m c) (inC m c) (inN m c) (inG m c) (((cfg0.win 7).blk t).view.emb y) := by
  have h1 : (y 1).val < 256 := (y 1).isLt
  have h2 : (y 2).val < 1024 := (y 2).isLt
  have ht : t.val < 32 := lt_of_lt_of_eq t.isLt N_0
  obtain ⟨p0, p1, p2⟩ := place7 t y
  unfold blockAt
  rw [outBlock_eq]
  unfold RetSpec.result RetSpec.gate
  rw [p0]
  simp only [p1, p2]
  have hx : ∀ x : Fin 128, bMix ((y 1).val / 64) (X0_0 m c t) (X0_1 m c t) (X0_2 m c t) (iblk m c 4 t) (iblk m c 5 t)
        (bAfter (X0_1 m c t) (X0_2 m c t) (iblk m c 4 t) (iblk m c 5 t) (stateBefore m c t.val) ((y 1).val / 64)) ((y 2).val / 128) ((y 1).val % 64) x.val
      = RetSpec.mix (inP m c) (inC m c) (inN m c) (t.val / 8) ((256 * (t.val % 8) + (y 1).val) / 64) ((y 2).val / 128)
        ((256 * (t.val % 8) + (y 1).val) % 64) x.val := fun x => by
    rw [mix_of m c t _ (show (y 1).val / 64 < 4 by omega) (show (y 2).val / 128 < 8 by omega) (Nat.mod_lt _ (by decide)) x.isLt
      (after_of m c t _ (before_of m c t.val ht) _ (by omega)),
      show (256 * (t.val % 8) + (y 1).val) / 64 = 4 * (t.val % 8) + (y 1).val / 64 by omega,
      show (256 * (t.val % 8) + (y 1).val) % 64 = (y 1).val % 64 by omega]
  unfold bOut
  rw [block6 m c t, block3 m c t y]
  exact congrArg (· * _) (congrArg (· * _) (congrArg (RetSpec.normed · _) (funext hx)))

/-- The array after the run is the retention's. -/
theorem final : (dats m 0 c).arrAt 7 (cfgs 0).N = RetSpec.result (inP m c) (inC m c) (inN m c) (inG m c) := by
  refine (dats m 0 c).arrAt_eq_of_covers 7 _ (by decide +kernel) fun t _ y => ?_
  blk_simp
  rw [after0_7]
  exact point m c t y

end Cert.RetIdeal.Gen
-- ==== Proof.RetRefEntry.lean ====
module

public import proofs.«01_k».proof.Proof.Gen.RetRefIdeal.Run
public import proofs.«01_k».proof.Proof.RetIdealPoint
public import Idealize.ShloMosaic.Lib.StableHlo.RunRead
public import Idealize.ShloMosaic.Lib.Pipeline.ValueKit

/-! What the retention's reference holds before its loop over the chunks, over the extended reals. -/

@[expose] public section

set_option maxRecDepth 16384

noncomputable section

namespace Cert.RetRefValue

open Cert.RetRefIdeal Cert.RetRefIdeal.Gen Cert.RetRefIdeal.Value
open Cert.RetIdeal.Gen (float_of_nat ofBits_63)
open Idealize.ShloMosaic Idealize.ShloMosaic.TcCoe Idealize.SL.Sem Idealize.ShloMosaic.StableHlo
open RetSpec (at3 at1)

variable (m : (ℓ : Loc nD τ sig) → Buf (Elt Ideal) ℓ) (c : Dev nD)

/-- The arguments: the projected activations, the angles' cosines and sines, the norm's scales. -/
abbrev argP : Vec Ideal S4x2048x8320 .f32 := launchContents m c (Proc.devRef .tc main_arg0)
abbrev argC : Vec Ideal S4x2048x64 .f32 := launchContents m c (Proc.devRef .tc main_arg1)
abbrev argN : Vec Ideal S4x2048x64 .f32 := launchContents m c (Proc.devRef .tc main_arg2)
abbrev argG : Vec Ideal S1024 .f32 := launchContents m c (Proc.devRef .tc main_arg3)

/-- The constants of the decays. -/
theorem ofBits_2 : Ideal.ofBits .f32 0x40000000#32 = ((2 : ℝ) : EReal) := by
  simp [Ideal.ofBits, Ideal.ieee, -EReal.coe_mul]; norm_num
theorem ofBits_neg5 : Ideal.ofBits .f32 0xC0A00000#32 = ((-5 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num

/-- A head's decay is positive. -/
theorem decay_pos (h : ℕ) : (0 : ℝ) < 1 - 1 / 2 ^ (5 + h) := by
  have : (1 : ℝ) < 2 ^ (5 + h) := one_lt_pow₀ (by norm_num) (by omega)
  rw [sub_pos, div_lt_one (by positivity)]; exact this

/-- The logarithm of a head's decay, as the reference writes it. -/
theorem log_eq {h : ℕ} (hh : h < 64) : Ideal.log1p (-Ideal.pow (Ideal.ofBits .f32 0x40000000#32)
      (Ideal.ofBits .f32 0xC0A00000#32 - FloatOps.sitofp (F := Ideal) .f32 (BitVec.ofNat 32 h))) = RetSpec.lg h := by
  rw [float_of_nat hh, ofBits_2, ofBits_neg5, ← EReal.coe_sub, Ideal.pow_coe_coe, ← EReal.coe_neg]
  unfold Ideal.log1p RetSpec.lg
  have e : Real.rpow 2 ((-5 : ℝ) - (h : ℝ)) = 1 / 2 ^ (5 + h) := by
    show (2 : ℝ) ^ ((-5 : ℝ) - (h : ℝ)) = _
    rw [show (-5 : ℝ) - (h : ℝ) = -((5 + h : ℕ) : ℝ) by push_cast; ring, Real.rpow_neg (by norm_num), Real.rpow_natCast, one_div]
  rw [e, show (1 : EReal) + ((-(1 / 2 ^ (5 + h)) : ℝ) : EReal) = ((1 - 1 / 2 ^ (5 + h) : ℝ) : EReal) by
    rw [← EReal.coe_one, ← EReal.coe_add]; rfl]
  exact if_neg (not_le.mpr (decay_pos h))

/-- The chunks of the queries. -/
abbrev qAll : Vec Ideal S32x4x8x64x128 .f32 := entryContents preI m c (Proc.devRef .tc main_v90)
/-- The chunks of the keys. -/
abbrev kAll : Vec Ideal S32x4x8x64x128 .f32 := entryContents preI m c (Proc.devRef .tc main_v92)
/-- The chunks of the values. -/
abbrev vAll : Vec Ideal S32x4x8x64x128 .f32 := entryContents preI m c (Proc.devRef .tc main_v94)
/-- The decays within a chunk, out of it and into it. -/
abbrev withinAll : Vec Ideal S8x64x64 .f32 := entryContents preI m c (Proc.devRef .tc main_v66)
abbrev outofAll : Vec Ideal S8x64x1 .f32 := entryContents preI m c (Proc.devRef .tc main_v75)
abbrev intoAll : Vec Ideal S8x64x1 .f32 := entryContents preI m c (Proc.devRef .tc main_v84)

set_option maxHeartbeats 2000000 in
/-- The queries. -/
theorem q_read (i : S32x4x8x64x128.Idx) :
    qAll m c i = RetSpec.query (argP m c) (argC m c) (argN m c) (i 1).val (64 * (i 0).val + (i 3).val) (i 2).val (i 4).val := by
  unfold RetSpec.query RetSpec.turn
  simp only [qAll, entryContents, afterL_cons, afterL_nil]
  after_reads_simp
  pointwise
  by_cases h : (i 4).val < 64
  · rw [dif_pos h, if_pos h]
    after_reads_simp
    pointwise
    refine congrArg₂ (· - ·) (congrArg₂ (· * ·) ?_ ?_) (congrArg₂ (· * ·) ?_ ?_) <;>
      exact (RetSpec.at3_eq _ _).trans (RetSpec.at3_congr _ rfl (by dsimp <;> omega) (by dsimp <;> omega))
  · rw [dif_neg h, if_neg h]
    after_reads_simp
    pointwise
    refine congrArg₂ (· + ·) (congrArg₂ (· * ·) ?_ ?_) (congrArg₂ (· * ·) ?_ ?_) <;>
      exact (RetSpec.at3_eq _ _).trans (RetSpec.at3_congr _ rfl (by dsimp <;> omega) (by dsimp <;> omega))

set_option maxHeartbeats 2000000 in
/-- The scaled keys. -/
theorem k_read (i : S32x4x8x64x128.Idx) :
    kAll m c i = RetSpec.key (argP m c) (argC m c) (argN m c) (i 1).val (64 * (i 0).val + (i 3).val) (i 2).val (i 4).val := by
  unfold RetSpec.key RetSpec.turn
  simp only [kAll, entryContents, afterL_cons, afterL_nil]
  after_reads_simp
  pointwise
  refine congrArg (· * _) ?_
  by_cases h : (i 4).val < 64
  · rw [dif_pos h, if_pos h]
    after_reads_simp
    pointwise
    refine congrArg₂ (· - ·) (congrArg₂ (· * ·) ?_ ?_) (congrArg₂ (· * ·) ?_ ?_) <;>
      exact (RetSpec.at3_eq _ _).trans (RetSpec.at3_congr _ rfl (by dsimp <;> omega) (by dsimp <;> omega))
  · rw [dif_neg h, if_neg h]
    after_reads_simp
    pointwise
    refine congrArg₂ (· + ·) (congrArg₂ (· * ·) ?_ ?_) (congrArg₂ (· * ·) ?_ ?_) <;>
      exact (RetSpec.at3_eq _ _).trans (RetSpec.at3_congr _ rfl (by dsimp <;> omega) (by dsimp <;> omega))

set_option maxHeartbeats 2000000 in
/-- The values. -/
theorem v_read (i : S32x4x8x64x128.Idx) :
    vAll m c i = RetSpec.value (argP m c) (i 1).val (64 * (i 0).val + (i 3).val) (i 2).val (i 4).val := by
  unfold RetSpec.value
  simp only [vAll, entryContents, afterL_cons, afterL_nil]
  after_reads_simp
  pointwise
  exact (RetSpec.at3_eq _ _).trans (RetSpec.at3_congr _ rfl (by dsimp <;> omega) (by dsimp <;> omega))

set_option maxHeartbeats 2000000 in
/-- The decays within a chunk. -/
theorem within_read (i : S8x64x64.Idx) : withinAll m c i = RetSpec.within (i 0).val (i 1).val (i 2).val := by
  have h0 : (i 0).val < 8 := (i 0).isLt
  have h1 : (i 1).val < 64 := (i 1).isLt
  have h2 : (i 2).val < 64 := (i 2).isLt
  unfold RetSpec.within
  simp only [withinAll, entryContents, afterL_cons, afterL_nil]
  after_reads_simp
  simp only [TRef.toBuf, TRef.ofBuf, cast_cast, cast_eq, id]
  pointwise
  rw [log_eq (show (i 0).val < 64 by omega), float_of_nat h1, float_of_nat h2]
  simp only [EReal.coe_le_coe_iff, Nat.cast_le, EReal.coe_sub]
  split <;> rfl

set_option maxHeartbeats 2000000 in
/-- The decays out of a chunk. -/
theorem outof_read (i : S8x64x1.Idx) : outofAll m c i = RetSpec.outof (i 0).val (i 1).val := by
  have h0 : (i 0).val < 8 := (i 0).isLt
  have h1 : (i 1).val < 64 := (i 1).isLt
  unfold RetSpec.outof
  simp only [outofAll, entryContents, afterL_cons, afterL_nil]
  after_reads_simp
  pointwise
  rw [log_eq (show (i 0).val < 64 by omega), float_of_nat h1, ofBits_63, EReal.coe_sub]

set_option maxHeartbeats 2000000 in
/-- The decays into a chunk. -/
theorem into_read (i : S8x64x1.Idx) : intoAll m c i = RetSpec.into (i 0).val (i 1).val := by
  have h0 : (i 0).val < 8 := (i 0).isLt
  have h1 : (i 1).val < 64 := (i 1).isLt
  unfold RetSpec.into
  simp only [intoAll, entryContents, afterL_cons, afterL_nil]
  after_reads_simp
  pointwise
  rw [log_eq (show (i 0).val < 64 by omega), float_of_nat h1, EReal.coe_add]; rfl

set_option maxHeartbeats 2000000 in
/-- The decays over a chunk, which the loop carries. -/
theorem cd_read (i : S8x1x1.Idx) :
    (entryContents preI m c (Proc.devRef .tc main_v106_1) : Vec Ideal S8x1x1 .f32) i = RetSpec.cd (i 0).val := by
  have h0 : (i 0).val < 8 := (i 0).isLt
  simp only [entryContents, afterL_cons, afterL_nil]
  after_reads_simp
  simp only [id]
  pointwise
  rw [log_eq (show (i 0).val < 64 by omega), ofBits_64]
  unfold RetSpec.cd RetSpec.lg
  rw [← EReal.coe_mul]
  show ((Real.exp _ : ℝ) : EReal) = _
  refine congrArg _ ?_
  rw [mul_comm, Real.exp_mul, Real.exp_log (decay_pos _)]
  exact_mod_cast Real.rpow_natCast _ 64

set_option maxHeartbeats 2000000 in
/-- The state the loop starts from. -/
theorem r0_read (i : S4x8x128x128.Idx) :
    (entryContents preI m c (Proc.devRef .tc main_v106_3) : Vec Ideal S4x8x128x128 .f32) i = (0 : EReal) := by
  simp only [entryContents, afterL_cons, afterL_nil]
  after_reads_simp
  simp only [id]
  pointwise

/-- The retention within the chunks, from their queries, keys and values. -/
def intraOf (q k v : FVec Ideal S32x4x8x64x128 .f32) (w : FVec Ideal S8x64x64 .f32) : FVec Ideal S32x4x8x64x128 .f32 :=
  Host.dotGeneral dot_S32x4x8x64x64_S32x4x8x64x128_S32x4x8x64x128_4_3_3_4_012_012 none
    (mulf (Host.dotGeneral dot_S32x4x8x64x128_S32x4x8x64x128_S32x4x8x64x64_4_4_3_3_012_012 none q k)
      (broadcastInDim S32x4x8x64x64 ![0, 1, 2, 3, 4] bcast_S1x1x8x64x64_S32x4x8x64x64_0_1_2_3_4
        (broadcastInDim S1x1x8x64x64 ![2, 3, 4] bcast_S8x64x64_S1x1x8x64x64_2_3_4 w))) v

/-- What the chunks add to the state. -/
def addedOf (k v : FVec Ideal S32x4x8x64x128 .f32) (w : FVec Ideal S8x64x1 .f32) : FVec Ideal S32x4x8x128x128 .f32 :=
  Host.dotGeneral dot_S32x4x8x64x128_S32x4x8x64x128_S32x4x8x128x128_3_3_4_4_012_012 none
    (mulf k (broadcastInDim S32x4x8x64x128 ![0, 1, 2, 3, 4] bcast_S1x1x8x64x1_S32x4x8x64x128_0_1_2_3_4
      (broadcastInDim S1x1x8x64x1 ![2, 3, 4] bcast_S8x64x1_S1x1x8x64x1_2_3_4 w))) v

/-- An entry of the retention within a chunk. -/
theorem intraOf_apply (q k v w) (i : S32x4x8x64x128.Idx) : intraOf q k v w i
    = ∑ s : Fin 64, (∑ d : Fin 128, q (ix5 (i 0) (i 1) (i 2) (i 3) d) * k (ix5 (i 0) (i 1) (i 2) s d)) * w (ix3 (i 2) (i 3) s)
      * v (ix5 (i 0) (i 1) (i 2) s (i 4)) := by
  pointwise [intraOf]

/-- An entry of what a chunk adds. -/
theorem addedOf_apply (k v w) (i : S32x4x8x128x128.Idx) : addedOf k v w i
    = ∑ s : Fin 64, k (ix5 (i 0) (i 1) (i 2) s (i 3)) * w (ix3 (i 2) s 0) * v (ix5 (i 0) (i 1) (i 2) s (i 4)) := by
  pointwise [addedOf]

set_option maxHeartbeats 4000000 in
/-- The reference's retention within the chunks. -/
theorem intra_def : (entryContents preI m c (Proc.devRef .tc main_v99) : Vec Ideal S32x4x8x64x128 .f32)
    = intraOf (qAll m c) (kAll m c) (vAll m c) (withinAll m c) := by
  simp only [qAll, kAll, vAll, withinAll, entryContents, afterL_cons, afterL_nil]
  after_reads_simp
  rfl

set_option maxHeartbeats 4000000 in
/-- What the loop carries for the chunks to add. -/
theorem added_def : (entryContents preI m c (Proc.devRef .tc main_v106_0) : Vec Ideal S32x4x8x128x128 .f32)
    = addedOf (kAll m c) (vAll m c) (outofAll m c) := by
  simp only [kAll, vAll, outofAll, entryContents, afterL_cons, afterL_nil]
  after_reads_simp
  rfl

/-- What a chunk adds to the state. -/
theorem added_read (i : S32x4x8x128x128.Idx) :
    (entryContents preI m c (Proc.devRef .tc main_v106_0) : Vec Ideal S32x4x8x128x128 .f32) i
    = ∑ s : Fin 64, RetSpec.key (argP m c) (argC m c) (argN m c) (i 1).val (64 * (i 0).val + s.val) (i 2).val (i 3).val
        * RetSpec.outof (i 2).val s.val * RetSpec.value (argP m c) (i 1).val (64 * (i 0).val + s.val) (i 2).val (i 4).val := by
  rw [added_def, addedOf_apply]
  show @Eq EReal _ _
  refine Finset.sum_congr rfl fun s _ => ?_
  rw [k_read, v_read, outof_read]
  rfl

/-- The retention within a chunk. -/
theorem intra_read (i : S32x4x8x64x128.Idx) :
    (entryContents preI m c (Proc.devRef .tc main_v99) : Vec Ideal S32x4x8x64x128 .f32) i
    = ∑ s : Fin 64, (∑ d : Fin 128, RetSpec.query (argP m c) (argC m c) (argN m c) (i 1).val (64 * (i 0).val + (i 3).val) (i 2).val d.val
          * RetSpec.key (argP m c) (argC m c) (argN m c) (i 1).val (64 * (i 0).val + s.val) (i 2).val d.val)
        * RetSpec.within (i 2).val (i 3).val s.val * RetSpec.value (argP m c) (i 1).val (64 * (i 0).val + s.val) (i 2).val (i 4).val := by
  rw [intra_def, intraOf_apply]
  show @Eq EReal _ _
  refine Finset.sum_congr rfl fun s _ => ?_
  rw [v_read, within_read]
  refine congrArg (· * _ * _) (Finset.sum_congr rfl fun d _ => ?_)
  rw [q_read, k_read]
  rfl

end Cert.RetRefValue
-- ==== Proof.RetRefLoop.lean ====
module

public import proofs.«01_k».proof.Proof.RetRefEntry

/-! The loop of the retention's reference over the chunks, over the extended reals: the states it goes through and those
it stacks. -/

@[expose] public section

set_option maxRecDepth 16384

noncomputable section

namespace Cert.RetRefValue

open Idealize.ShloMosaic.WordCmp (dynamicSlice_eq_extract dynamicUpdateSlice_eq_update)
open Cert.RetRefIdeal Cert.RetRefIdeal.Gen Cert.RetRefIdeal.Value
open Idealize.ShloMosaic Idealize.ShloMosaic.TcCoe Idealize.SL.Sem Idealize.ShloMosaic.StableHlo

variable (m : (ℓ : Loc nD τ sig) → Buf (Elt Ideal) ℓ) (c : Dev nD)

/-- The counter's word is the trip's number. -/
theorem counter_toInt {k : ℕ} (hk : k < 32) : (Scf.iv 0#32 1#32 k).toInt = (k : ℤ) := by
  interval_cases k <;> rfl

/-- The counter, beside zeros: where a trip's slice begins. -/
theorem starts_eq {V0 : Valuation τ sig (Elt Ideal)} {k : ℕ} (hk : k < 32)
    (hc : V0 (Proc.devRef .tc main_v106_2) = fun _ => Scf.iv 0#32 1#32 k) (a : Fin 5) :
    ((![V0 (Proc.devRef .tc main_v106_2), constantI S_ 32 0#32, constantI S_ 32 0#32, constantI S_ 32 0#32, constantI S_ 32 0#32] :
      Fin 5 → (⟨S_, .i32⟩ : BufTy).Contents (Elt Ideal)) a (Shape.Idx.first h_S_)).toInt
    = (((![k, 0, 0, 0, 0] : Fin 5 → ℕ) a : ℕ) : ℤ) := by
  fin_cases a
  · show ((V0 (Proc.devRef .tc main_v106_2)) (Shape.Idx.first h_S_)).toInt = _
    rw [hc]; exact counter_toInt hk
  all_goals rfl

/-- A chunk's slice lies within the stack. -/
theorem fits {k : ℕ} (hk : k < 32) : S32x4x8x128x128.Slices ![k, 0, 0, 0, 0] S1x4x8x128x128 :=
  ⟨rfl, fun a => by fin_cases a <;> (show _ + _ ≤ _) <;> first | exact hk | exact Nat.le_refl _⟩

/-- The carried state, decays, additions and stack. -/
abbrev carR (V : Valuation τ sig (Elt Ideal)) : FVec Ideal S4x8x128x128 .f32 := V (Proc.devRef .tc main_v106_3)
abbrev carD (V : Valuation τ sig (Elt Ideal)) : FVec Ideal S8x1x1 .f32 := V (Proc.devRef .tc main_v106_1)
abbrev carA (V : Valuation τ sig (Elt Ideal)) : FVec Ideal S32x4x8x128x128 .f32 := V (Proc.devRef .tc main_v106_0)
abbrev carS (V : Valuation τ sig (Elt Ideal)) : FVec Ideal S32x4x8x128x128 .f32 := V (Proc.devRef .tc main_v106_4)

/-- A trip's next state. -/
theorem step3_apply (V0 : Valuation τ sig (Elt Ideal)) {k : ℕ} (hk : k < 32)
    (hc : V0 (Proc.devRef .tc main_v106_2) = fun _ => Scf.iv 0#32 1#32 k) (i : S4x8x128x128.Idx) :
    (step_main_v106_3 V0 : FVec Ideal S4x8x128x128 .f32) i
    = carR V0 i * carD V0 (ix3 (i 1) 0 0) + carA V0 (ix5 ⟨k, hk⟩ (i 0) (i 1) (i 2) (i 3)) := by
  unfold step_main_v106_3
  rw [dynamicSlice_eq_extract _ _ _ _ ![k, 0, 0, 0, 0] (fits hk) (starts_eq hk hc)]
  simp only [id]
  pointwise

/-- A trip's stack. -/
theorem step4_apply (V0 : Valuation τ sig (Elt Ideal)) {k : ℕ} (hk : k < 32)
    (hc : V0 (Proc.devRef .tc main_v106_2) = fun _ => Scf.iv 0#32 1#32 k) (i : S32x4x8x128x128.Idx) :
    (step_main_v106_4 V0 : FVec Ideal S32x4x8x128x128 .f32) i
    = if (i 0).val = k then carR V0 (ix4 (i 1) (i 2) (i 3) (i 4)) else carS V0 i := by
  unfold step_main_v106_4
  rw [dynamicUpdateSlice_eq_update _ _ _ _ ![k, 0, 0, 0, 0] (fits hk) (starts_eq hk hc)]
  simp only [id]
  pointwise
  by_cases e : (i 0).val = k
  · rw [if_pos e]
    refine dif_pos (show ∀ a : Fin 5, (![k, 0, 0, 0, 0] : Fin 5 → ℕ) a ≤ (i a).val
        ∧ (i a).val < (![k, 0, 0, 0, 0] : Fin 5 → ℕ) a + (![1, 4, 8, 128, 128] : Fin 5 → ℕ) a from fun a => ?_)
    fin_cases a
    · exact ⟨e.ge, by show (i 0).val < k + 1; omega⟩
    · exact ⟨Nat.zero_le _, lt_of_lt_of_eq (i 1).isLt (Nat.zero_add _).symm⟩
    · exact ⟨Nat.zero_le _, lt_of_lt_of_eq (i 2).isLt (Nat.zero_add _).symm⟩
    · exact ⟨Nat.zero_le _, lt_of_lt_of_eq (i 3).isLt (Nat.zero_add _).symm⟩
    · exact ⟨Nat.zero_le _, lt_of_lt_of_eq (i 4).isLt (Nat.zero_add _).symm⟩
  · rw [if_neg e]
    refine dif_neg (fun h => e ?_)
    have h0 : k ≤ (i 0).val ∧ (i 0).val < k + 1 := h (0 : Fin 5)
    omega

/-- A trip leaves the decays and the additions. -/
theorem carD_succ (k : ℕ) : carD (atK m (k + 1) c) = carD (atK m k c) :=
  (trip_agree (atK m k c) main_v106_1 (by decide)).trans (STEP_main_v106_1 _)
theorem carA_succ (k : ℕ) : carA (atK m (k + 1) c) = carA (atK m k c) :=
  (trip_agree (atK m k c) main_v106_0 (by decide)).trans (STEP_main_v106_0 _)

/-- A trip's state and stack. -/
theorem carR_succ (k : ℕ) : carR (atK m (k + 1) c) = step_main_v106_3 (atK m k c) :=
  (trip_agree (atK m k c) main_v106_3 (by decide)).trans (STEP_main_v106_3 _)
theorem carS_succ (k : ℕ) : carS (atK m (k + 1) c) = step_main_v106_4 (atK m k c) :=
  (trip_agree (atK m k c) main_v106_4 (by decide)).trans (STEP_main_v106_4 _)

/-- Through the loop the decays and the additions are those it began with. -/
theorem carD_eq : ∀ k, carD (atK m k c) = carD (entryContents preI m c)
  | 0 => rfl
  | k + 1 => (carD_succ m c k).trans (carD_eq k)
theorem carA_eq : ∀ k, carA (atK m k c) = carA (entryContents preI m c)
  | 0 => rfl
  | k + 1 => (carA_succ m c k).trans (carA_eq k)

/-- Before trip `k` the state is the recurrence's. -/
theorem carR_eq : ∀ k, k ≤ 32 → ∀ i : S4x8x128x128.Idx, carR (atK m k c) i
    = RetSpec.state (argP m c) (argC m c) (argN m c) (i 0).val (i 1).val k (i 2).val (i 3).val
  | 0, _, i => r0_read m c i
  | k + 1, hk, i => by
    rw [carR_succ, step3_apply _ (show k < 32 by omega) (atK_ctr m c k), carR_eq k (by omega), carD_eq, carA_eq]
    exact congrArg₂ (· + ·) (congrArg (_ * ·) (cd_read m c _)) (added_read m c _)

/-- Before trip `k` the stack holds the states before the chunks before `k`. -/
theorem carS_eq : ∀ k, k ≤ 32 → ∀ i : S32x4x8x128x128.Idx, (i 0).val < k → carS (atK m k c) i
    = RetSpec.state (argP m c) (argC m c) (argN m c) (i 1).val (i 2).val (i 0).val (i 3).val (i 4).val
  | 0, _, i, h => absurd h (Nat.not_lt_zero _)
  | k + 1, hk, i, h => by
    rw [carS_succ, step4_apply _ (show k < 32 by omega) (atK_ctr m c k)]
    by_cases e : (i 0).val = k
    · rw [if_pos e, carR_eq m c k (by omega), e]; rfl
    · rw [if_neg e]; exact carS_eq k (by omega) i (by omega)

/-- The loop leaves a buffer none of its operations writes. -/
theorem atK_kept (b : Ref sig .tc)
    (hc : b ∉ condOps_W) (h0 : b ∉ while0Ops0_W) (h1 : b ∉ while0Ops0_1_W) (h2 : b ∉ while0Ops0_2_W) (h3 : b ∉ while0Ops0_3_W) :
    ∀ k, atK m k c (Proc.devRef .tc b) = entryContents preI m c (Proc.devRef .tc b)
  | 0 => rfl
  | k + 1 => by
    rw [show atK m (k + 1) c = afterL bodyI (after condOps (atK m k c)) from rfl]
    rw [show afterL bodyI (after condOps (atK m k c)) = after while0Ops0_3 (after while0Ops0_2 (after while0Ops0_1
        (after while0Ops0 (after condOps (atK m k c))))) from rfl, after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc]
    exact atK_kept b hc h0 h1 h2 h3 k

end Cert.RetRefValue
-- ==== Proof.RetRefOut.lean ====
module

public import proofs.«01_k».proof.Proof.RetRefLoop

/-! The result of the retention's reference, over the extended reals. -/

@[expose] public section

set_option maxRecDepth 16384

noncomputable section

namespace Cert.RetRefValue

open Cert.RetRefIdeal Cert.RetRefIdeal.Gen Cert.RetRefIdeal.Value
open Idealize.ShloMosaic Idealize.ShloMosaic.TcCoe Idealize.SL.Sem Idealize.ShloMosaic.StableHlo

variable (m : (ℓ : Loc nD τ sig) → Buf (Elt Ideal) ℓ) (c : Dev nD)

/-- The contents the operations after the loop begin with. -/
def afterLoop : Valuation τ sig (Elt Ideal) := after condOps (atK m 32 c)

/-- The operations after the loop read what it leaves. -/
theorem afterLoop_S : carS (afterLoop m c) = carS (atK m 32 c) :=
  after_of_writes_sub condOps _ condOps_writes (by decide +kernel)
theorem afterLoop_q : (afterLoop m c (Proc.devRef .tc main_v90) : FVec Ideal S32x4x8x64x128 .f32) = qAll m c :=
  (after_of_writes_sub condOps _ condOps_writes (by decide +kernel)).trans
    (atK_kept m c main_v90 (by decide +kernel) (by decide +kernel) (by decide +kernel) (by decide +kernel) (by decide +kernel) 32)
theorem afterLoop_intra : (afterLoop m c (Proc.devRef .tc main_v99) : FVec Ideal S32x4x8x64x128 .f32)
    = intraOf (qAll m c) (kAll m c) (vAll m c) (withinAll m c) :=
  ((after_of_writes_sub condOps _ condOps_writes (by decide +kernel)).trans
    (atK_kept m c main_v99 (by decide +kernel) (by decide +kernel) (by decide +kernel) (by decide +kernel) (by decide +kernel) 32)).trans (intra_def m c)
theorem afterLoop_into : (afterLoop m c (Proc.devRef .tc main_v84) : FVec Ideal S8x64x1 .f32) = intoAll m c :=
  (after_of_writes_sub condOps _ condOps_writes (by decide +kernel)).trans
    (atK_kept m c main_v84 (by decide +kernel) (by decide +kernel) (by decide +kernel) (by decide +kernel) (by decide +kernel) 32)

/-- The retention of the chunks: within them, and of the states before them. -/
def mixOf (w q : FVec Ideal S32x4x8x64x128 .f32) (S : FVec Ideal S32x4x8x128x128 .f32) (x : FVec Ideal S8x64x1 .f32) :
    FVec Ideal S32x4x8x64x128 .f32 :=
  addf w (mulf (Host.dotGeneral dot_S32x4x8x64x128_S32x4x8x128x128_S32x4x8x64x128_4_3_3_4_012_012 none q S)
    (broadcastInDim S32x4x8x64x128 ![0, 1, 2, 3, 4] bcast_S1x1x8x64x1_S32x4x8x64x128_0_1_2_3_4
      (broadcastInDim S1x1x8x64x1 ![2, 3, 4] bcast_S8x64x1_S1x1x8x64x1_2_3_4 x)))

/-- The retention by position and head. -/
def headsOf (z : FVec Ideal S32x4x8x64x128 .f32) : FVec Ideal S4x2048x8x128 .f32 :=
  transpose S4x2048x8x128 [0, 2, 1, 3] (shapeCast S4x8x2048x128
    (transpose S4x8x32x64x128 [1, 2, 0, 3, 4] z transposes_S32x4x8x64x128_S4x8x32x64x128_1_2_0_3_4)
    shapeCasts_S4x8x32x64x128_S4x8x2048x128) transposes_S4x8x2048x128_S4x2048x8x128_0_2_1_3

/-- The means over the heads. -/
def meansOf (z : FVec Ideal S4x2048x8x128 .f32) : FVec Ideal S4x2048x8x1 .f32 :=
  Host.divf (broadcastInDim S4x2048x8x1 ![0, 1, 2] bcast_S4x2048x8_S4x2048x8x1_0_1_2
      (Host.reduceAdd z (constant S_ .f32 0x00000000#32) reducesTo_S4x2048x8x128_S4x2048x8_d3 h_S_))
    (broadcastInDim S4x2048x8x1 ![] bcast_S_S4x2048x8x1 (constant S_ .f32 0x43000000#32))

/-- The heads less their means. -/
def centredOf (z : FVec Ideal S4x2048x8x128 .f32) : FVec Ideal S4x2048x8x128 .f32 :=
  subf z (broadcastInDim S4x2048x8x128 ![0, 1, 2, 3] bcast_S4x2048x8x1_S4x2048x8x128_0_1_2_3 (meansOf z))

/-- The heads, normed. -/
def normedOf (z : FVec Ideal S4x2048x8x128 .f32) : FVec Ideal S4x2048x8x128 .f32 :=
  mulf (centredOf z) (broadcastInDim S4x2048x8x128 ![0, 1, 2, 3] bcast_S4x2048x8x1_S4x2048x8x128_0_1_2_3
    (Host.rsqrt (addf (meansOf (mulf (centredOf z) (centredOf z)))
      (broadcastInDim S4x2048x8x1 ![] bcast_S_S4x2048x8x1 (constant S_ .f32 0x3727C5AC#32)))))

/-- The normed heads, scaled. -/
def scaledOf (z : FVec Ideal S4x2048x8x128 .f32) (n : FVec Ideal S1024 .f32) : FVec Ideal S4x2048x1024 .f32 :=
  mulf (shapeCast S4x2048x1024 (normedOf z) shapeCasts_S4x2048x8x128_S4x2048x1024)
    (broadcastInDim S4x2048x1024 ![0, 1, 2] bcast_S1x1x1024_S4x2048x1024_0_1_2
      (broadcastInDim S1x1x1024 ![2] bcast_S1024_S1x1x1024_2 n))

/-- The gates. -/
def gateOf (g : FVec Ideal S4x2048x1024 .f32) : FVec Ideal S4x2048x1024 .f32 :=
  mulf g (Host.divf (broadcastInDim S4x2048x1024 ![] bcast_S_S4x2048x1024 (constant S_ .f32 0x3F800000#32))
    (addf (broadcastInDim S4x2048x1024 ![] bcast_S_S4x2048x1024 (constant S_ .f32 0x3F800000#32)) (Host.exp (Host.negf g))))

theorem mixOf_apply (w q S x) (i : S32x4x8x64x128.Idx) : mixOf w q S x i
    = w i + (∑ d : Fin 128, q (ix5 (i 0) (i 1) (i 2) (i 3) d) * S (ix5 (i 0) (i 1) (i 2) d (i 4))) * x (ix3 (i 2) (i 3) 0) := by
  pointwise [mixOf]

theorem headsOf_apply (z) (i : S4x2048x8x128.Idx) : headsOf z i
    = z (ix5 ⟨(i 1).val / 64, by have : (i 1).val < 2048 := (i 1).isLt; omega⟩ (i 0) (i 2) ⟨(i 1).val % 64, Nat.mod_lt _ (by decide)⟩ (i 3)) := by
  pointwise [headsOf]

theorem meansOf_apply (z) (i : S4x2048x8x1.Idx) : meansOf z i = RetSpec.mean (fun x => z (ix4 (i 0) (i 1) (i 2) x)) := by
  unfold RetSpec.mean
  pointwise [meansOf]

theorem centredOf_apply (z) (i : S4x2048x8x128.Idx) : centredOf z i
    = z i - RetSpec.mean (fun x => z (ix4 (i 0) (i 1) (i 2) x)) := by
  unfold RetSpec.mean
  pointwise [centredOf, meansOf]

theorem normedOf_apply (z) (i : S4x2048x8x128.Idx) : normedOf z i
    = RetSpec.normed (fun x => z (ix4 (i 0) (i 1) (i 2) x)) (i 3) := by
  unfold RetSpec.normed RetSpec.mean
  pointwise [normedOf, centredOf, meansOf]

theorem scaledOf_apply (z n) (i : S4x2048x1024.Idx) : scaledOf z n i
    = normedOf z (ix4 (i 0) (i 1) ⟨(i 2).val / 128, by have : (i 2).val < 1024 := (i 2).isLt; omega⟩ ⟨(i 2).val % 128, Nat.mod_lt _ (by decide)⟩)
      * n (ix1 (i 2)) := by
  pointwise [scaledOf]

theorem gateOf_apply (g) (i : S4x2048x1024.Idx) : gateOf g i = g i * Ideal.div 1 (1 + Ideal.exp (0 - g i)) := by
  pointwise [gateOf, zero_sub]

set_option maxHeartbeats 4000000 in
/-- The operations after the loop. -/
theorem out_def (V : Valuation τ sig (Elt Ideal)) : (afterL postI V (Proc.devRef .tc main_v137) : FVec Ideal S4x2048x1024 .bf16)
    = truncf .bf16 (mulf (scaledOf (headsOf (mixOf (V (Proc.devRef .tc main_v99)) (V (Proc.devRef .tc main_v90)) (carS V)
          (V (Proc.devRef .tc main_v84)))) (V (Proc.devRef .tc main_arg3)))
        (gateOf (V (Proc.devRef .tc main_v6)))) bitsLt_bf16_f32 := by
  simp only [afterL_cons, afterL_nil]
  after_reads_simp
  rfl

/-- The gates' columns and the norm's scale, as the operations after the loop find them. -/
theorem afterLoop_g (i : S4x2048x1024.Idx) : (afterLoop m c (Proc.devRef .tc main_v6) : FVec Ideal S4x2048x1024 .f32) i
    = RetSpec.at3 (argP m c) (i 0).val (i 1).val (3072 + (i 2).val) := by
  rw [show (afterLoop m c (Proc.devRef .tc main_v6) : FVec Ideal S4x2048x1024 .f32) = entryContents preI m c (Proc.devRef .tc main_v6) from
    (after_of_writes_sub condOps _ condOps_writes (by decide +kernel)).trans
    (atK_kept m c main_v6 (by decide +kernel) (by decide +kernel) (by decide +kernel) (by decide +kernel) (by decide +kernel) 32)]
  simp only [entryContents, afterL_cons, afterL_nil]
  after_reads_simp
  pointwise
  exact (RetSpec.at3_eq _ _).trans (RetSpec.at3_congr _ rfl (by dsimp <;> omega) (by dsimp <;> omega))
theorem afterLoop_n : (afterLoop m c (Proc.devRef .tc main_arg3) : FVec Ideal S1024 .f32) = argG m c := by
  rw [show (afterLoop m c (Proc.devRef .tc main_arg3) : FVec Ideal S1024 .f32) = entryContents preI m c (Proc.devRef .tc main_arg3) from
    (after_of_writes_sub condOps _ condOps_writes (by decide +kernel)).trans
    (atK_kept m c main_arg3 (by decide +kernel) (by decide +kernel) (by decide +kernel) (by decide +kernel) (by decide +kernel) 32)]
  simp only [entryContents, afterL_cons, afterL_nil]
  after_reads_simp

/-- The reference's retention is the retention of the chunks. -/
theorem mix_read (i : S32x4x8x64x128.Idx) :
    mixOf (afterLoop m c (Proc.devRef .tc main_v99)) (afterLoop m c (Proc.devRef .tc main_v90)) (carS (afterLoop m c))
      (afterLoop m c (Proc.devRef .tc main_v84)) i
    = RetSpec.mix (argP m c) (argC m c) (argN m c) (i 1).val (i 0).val (i 2).val (i 3).val (i 4).val := by
  rw [mixOf_apply, afterLoop_S, afterLoop_q, afterLoop_intra, afterLoop_into, ← intra_def, intra_read, into_read]
  unfold RetSpec.mix
  refine congrArg₂ (· + ·) rfl (congrArg (· * _) ?_)
  show @Eq EReal _ _
  refine Finset.sum_congr rfl fun d _ => ?_
  rw [q_read, carS_eq m c 32 le_rfl _ (i 0).isLt]
  rfl

/-- The last product, entry by entry. -/
theorem last_apply (a b : FVec Ideal S4x2048x1024 .f32) (y : S4x2048x1024.Idx) :
    (truncf .bf16 (mulf a b) bitsLt_bf16_f32 : FVec Ideal S4x2048x1024 .bf16) y = a y * b y := rfl

/-- The result of the operations after the loop is the retention's. -/
theorem result_read (y : S4x2048x1024.Idx) :
    (afterL postI (afterLoop m c) (Proc.devRef .tc main_v137) : FVec Ideal S4x2048x1024 .bf16) y
    = RetSpec.result (argP m c) (argC m c) (argN m c) (argG m c) y := by
  have hz : ∀ x, headsOf (mixOf (afterLoop m c (Proc.devRef .tc main_v99)) (afterLoop m c (Proc.devRef .tc main_v90)) (carS (afterLoop m c))
      (afterLoop m c (Proc.devRef .tc main_v84)))
        (ix4 (y 0) (y 1) ⟨(y 2).val / 128, by have : (y 2).val < 1024 := (y 2).isLt; omega⟩ x)
      = RetSpec.mix (argP m c) (argC m c) (argN m c) (y 0).val ((y 1).val / 64) ((y 2).val / 128) ((y 1).val % 64) x.val := fun x => by
    rw [headsOf_apply, mix_read]
    rfl
  rw [out_def, last_apply, scaledOf_apply, normedOf_apply, gateOf_apply, afterLoop_g, afterLoop_n, RetSpec.at1_eq (argG m c)]
  unfold RetSpec.result RetSpec.gate
  exact congrArg (· * _) (congrArg (· * _) (congrArg (RetSpec.normed · _) (funext hz)))

end Cert.RetRefValue
-- ==== Proof.RetRefRun.lean ====
/- The run of the retention's reference, over the extended reals: its result, and its arguments as they were. -/
module

public import proofs.«01_k».proof.Proof.RetRefOut

@[expose] public section

set_option maxRecDepth 16384

noncomputable section

namespace Cert.RetRefValue

open Cert.RetRefIdeal Cert.RetRefIdeal.Gen Cert.RetRefIdeal.Value
open Idealize.ShloMosaic Idealize.ShloMosaic.TcCoe Idealize.SL.Sem Idealize.ShloMosaic.StableHlo

variable (m : (ℓ : Loc nD τ sig) → Buf (Elt Ideal) ℓ) (c : Dev nD)

/-- The operations after the loop leave the arguments. -/
theorem post_kept0 (V : Valuation τ sig (Elt Ideal)) : afterL postI V (Proc.devRef .tc main_arg0) = V (Proc.devRef .tc main_arg0) := by
  simp only [afterL_cons, afterL_nil]
  after_reads_simp
theorem post_kept1 (V : Valuation τ sig (Elt Ideal)) : afterL postI V (Proc.devRef .tc main_arg1) = V (Proc.devRef .tc main_arg1) := by
  simp only [afterL_cons, afterL_nil]
  after_reads_simp
theorem post_kept2 (V : Valuation τ sig (Elt Ideal)) : afterL postI V (Proc.devRef .tc main_arg2) = V (Proc.devRef .tc main_arg2) := by
  simp only [afterL_cons, afterL_nil]
  after_reads_simp
theorem post_kept3 (V : Valuation τ sig (Elt Ideal)) : afterL postI V (Proc.devRef .tc main_arg3) = V (Proc.devRef .tc main_arg3) := by
  simp only [afterL_cons, afterL_nil]
  after_reads_simp

/-- The operations before the loop leave the arguments. -/
theorem pre_kept0 : entryContents preI m c (Proc.devRef .tc main_arg0) = m ((c.tc : Thread nD τ).loc main_arg0) := by
  simp only [entryContents, afterL_cons, afterL_nil]
  after_reads_simp
theorem pre_kept1 : entryContents preI m c (Proc.devRef .tc main_arg1) = m ((c.tc : Thread nD τ).loc main_arg1) := by
  simp only [entryContents, afterL_cons, afterL_nil]
  after_reads_simp
theorem pre_kept2 : entryContents preI m c (Proc.devRef .tc main_arg2) = m ((c.tc : Thread nD τ).loc main_arg2) := by
  simp only [entryContents, afterL_cons, afterL_nil]
  after_reads_simp
theorem pre_kept3 : entryContents preI m c (Proc.devRef .tc main_arg3) = m ((c.tc : Thread nD τ).loc main_arg3) := by
  simp only [entryContents, afterL_cons, afterL_nil]
  after_reads_simp

/-- What the loop leaves, the operations after it begin with. -/
theorem afterLoop_kept (b : Ref sig .tc)
    (hc : b ∉ condOps_W) (h0 : b ∉ while0Ops0_W) (h1 : b ∉ while0Ops0_1_W) (h2 : b ∉ while0Ops0_2_W) (h3 : b ∉ while0Ops0_3_W) :
    afterLoop m c (Proc.devRef .tc b) = entryContents preI m c (Proc.devRef .tc b) :=
  (after_of_writes_sub condOps _ condOps_writes hc).trans (atK_kept m c b hc h0 h1 h2 h3 32)

/-- The reference comes to an end with the retention's result and its arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v137) = RetSpec.result (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ⟨?_, ?_, ?_, ?_, ?_⟩) (run_fold m ρ)
  · exact (h c main_v137 (by decide)).trans (funext (result_read m c))
  · exact (h c main_arg0 (by decide)).trans ((post_kept0 (afterLoop m c)).trans ((afterLoop_kept m c main_arg0 (by decide +kernel) (by decide +kernel) (by decide +kernel) (by decide +kernel) (by decide +kernel)).trans (pre_kept0 m c)))
  · exact (h c main_arg1 (by decide)).trans ((post_kept1 (afterLoop m c)).trans ((afterLoop_kept m c main_arg1 (by decide +kernel) (by decide +kernel) (by decide +kernel) (by decide +kernel) (by decide +kernel)).trans (pre_kept1 m c)))
  · exact (h c main_arg2 (by decide)).trans ((post_kept2 (afterLoop m c)).trans ((afterLoop_kept m c main_arg2 (by decide +kernel) (by decide +kernel) (by decide +kernel) (by decide +kernel) (by decide +kernel)).trans (pre_kept2 m c)))
  · exact (h c main_arg3 (by decide)).trans ((post_kept3 (afterLoop m c)).trans ((afterLoop_kept m c main_arg3 (by decide +kernel) (by decide +kernel) (by decide +kernel) (by decide +kernel) (by decide +kernel)).trans (pre_kept3 m c)))

end Cert.RetRefValue
-- ==== Proof.UpValue.lean ====
/- The value of the gated up-projection: the array it returns is silu (h Wg) * (h Wu), entry by entry. -/
module

public import proofs.«01_k».proof.Proof.Gen.UpIdeal.Frame
public import proofs.«01_k».proof.Proof.Gen.UpRefIdeal.Run
public import Idealize.ShloMosaic.Lib.Pipeline.ValueKit

@[expose] public section

set_option maxRecDepth 16384

noncomputable section

namespace Cert.UpValue

open Cert.UpIdeal Cert.UpIdeal.Gen
open Idealize.ShloMosaic Idealize.ShloMosaic.TcCoe Idealize.SL.Sem
open Idealize.ShloMosaic.Pipeline (Dat)

variable (m : (ℓ : Loc nD τ sig) → Buf (Elt Ideal) ℓ)

/-- One of the two products of the reference. -/
abbrev PROD (X : FVec Ideal S8192x2048 .bf16) (W : FVec Ideal S2048x5632 .bf16) : FVec Ideal S8192x5632 .f32 :=
  Host.dotGeneral Cert.UpRefIdeal.dot_S8192x2048_S2048x5632_S8192x5632_1_0_0_1_n_n none
    (extf .f32 X Cert.UpRefIdeal.Gen.bitsLt_bf16_f32) (extf .f32 W Cert.UpRefIdeal.Gen.bitsLt_bf16_f32)

/-- What the reference computes: the gate through silu, times the other product. -/
abbrev REF (X : FVec Ideal S8192x2048 .bf16) (G U : FVec Ideal S2048x5632 .bf16) : FVec Ideal S8192x5632 .bf16 :=
  truncf .bf16 (mulf (mulf (PROD X G) (Host.divf
      (broadcastInDim S8192x5632 ![] Cert.UpRefIdeal.Gen.bcast_S_S8192x5632 (constant Cert.UpRefIdeal.S_ .f32 0x3F800000#32))
      (addf (broadcastInDim S8192x5632 ![] Cert.UpRefIdeal.Gen.bcast_S_S8192x5632 (constant Cert.UpRefIdeal.S_ .f32 0x3F800000#32))
        (Host.exp (Host.negf (PROD X G)))))) (PROD X U)) Cert.UpRefIdeal.Gen.bitsLt_bf16_f32

/-- Which blocks grid point `t` works on. -/
theorem idx : ∀ t : Fin cfg0.N, win0_0.index t = ![t.val % 16, 0] ∧ win0_1.index t = ![0, t.val / 16]
    ∧ win0_2.index t = ![0, t.val / 16] ∧ win0_3.index t = ![t.val % 16, t.val / 16] :=
  (by decide +kernel : ∀ t : Fin grid0.N, _)

/-- One entry of the block that point `t` stores is the reference's entry at the block's place in the array. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  pointwise [k0_pay1, REF, PROD, zero_sub]
  blk_point [iblk, V, idx t]

/-- The array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.UpValue

end
-- ==== Proof.DownValue.lean ====
/- The value of the down-projection: four partial products, added up in a buffer kept between grid points, are the
   product of the two whole arrays. -/
module

public import proofs.«01_k».proof.Proof.Gen.DownIdeal.Frame
public import proofs.«01_k».proof.Proof.Gen.DownRefIdeal.Run
public import Idealize.ShloMosaic.Lib.Pipeline.ValueKit
public import Idealize.ShloMosaic.Lib.Pipeline.ReadBack

@[expose] public section

set_option maxRecDepth 16384

noncomputable section

namespace Cert.DownValue

open Cert.DownIdeal Cert.DownIdeal.Gen
open Idealize.ShloMosaic Idealize.ShloMosaic.TcCoe Idealize.SL.Sem
open Idealize.ShloMosaic.Pipeline (Dat)

variable (m : (ℓ : Loc nD τ sig) → Buf (Elt Ideal) ℓ)

/-- What the reference computes: one product of the two whole arrays. -/
abbrev REF (X : FVec Ideal S8192x5632 .bf16) (W : FVec Ideal S5632x2048 .bf16) : FVec Ideal S8192x2048 .f32 :=
  Host.dotGeneral Cert.DownRefIdeal.dot_S8192x5632_S5632x2048_S8192x2048_1_0_0_1_n_n none
    (extf .f32 X Cert.DownRefIdeal.Gen.bitsLt_bf16_f32) (extf .f32 W Cert.DownRefIdeal.Gen.bitsLt_bf16_f32)

/-- Which blocks grid point `t` works on. -/
theorem idx : ∀ t : Fin cfg0.N, win0_0.index t = ![t.val / 4, t.val % 4] ∧ win0_1.index t = ![t.val % 4, 0]
    ∧ win0_2.index t = ![t.val / 4, 0] :=
  (by decide +kernel : ∀ t : Fin grid0.N, _)

/-- The block that clears the buffer is zero. -/
theorem pay_zero (i) : (k0_pay1 : FVec Ideal S512x2048 .f32) i = 0 := by
  pointwise [k0_pay1]

/-- One entry of the partial product of two blocks. -/
abbrev part (a : FVec Ideal S512x1408 .bf16) (b : FVec Ideal S1408x2048 .bf16) (i : S512x2048.Idx) : EReal :=
  ∑ k : Fin 1408, a (ix2 (i 0) k) * b (ix2 k (i 1))

/-- One addition: the buffer's entry plus the partial product's. -/
theorem pay_step (acc : FVec Ideal S512x2048 .f32) (a : FVec Ideal S512x1408 .bf16) (b : FVec Ideal S1408x2048 .bf16) (i) :
    k0_pay2 acc a b i = acc i + part a b i := by
  pointwise [k0_pay2, part]

/-- One entry of the reference. -/
theorem ref_apply (X : FVec Ideal S8192x5632 .bf16) (W : FVec Ideal S5632x2048 .bf16) (i) :
    REF X W i = ∑ k : Fin 5632, X (ix2 (i 0) k) * W (ix2 k (i 1)) := by
  pointwise [REF]

/-- At a point that writes back, the output block is what the buffer holds. -/
theorem out_eq_buffer (c : Dev nD) (t : Fin cfg0.N) (h : t.val % 4 = 3) (y) :
    (outsAt0 m c t.val t.isLt).1 y = (outsAt0 m c t.val t.isLt).2 y := by
  rw [outsAt0_C m c t (by omega) h]
  frame_out

/-- What the buffer holds at a point that writes back is the product's block. -/
theorem point (c : Dev nD) (t : Fin cfg0.N) (hf : t.val % 4 = 3) (y) : (outsAt0 m c t.val t.isLt).2 y
    = REF (m ((c : Thread nD τ).loc main_arg0)) (m ((c : Thread nD τ).loc main_arg1)) (((cfg0.win 2).blk t).view.emb y) := by
  rw [Pipeline.eq_sum_fin_of_reset_step_apply_of_flush (fun n h => (outsAt0 m c n h).2) 4 (fun _ => 0)
      (fun t i => part (iblk m c 0 t) (iblk m c 1 t) i)
      (fun t h j => by
        rw [outsAt0_A m c t h (by omega)]; frame_out; rw [pay_step, pay_zero])
      (fun t h j => by
        by_cases h3 : t.val % 4 = 3
        · rw [outsAt0_C m c t h h3]; frame_out; rw [pay_step, read_unread_whole]
        · rw [outsAt0_B m c t h h3]; frame_out; rw [pay_step, read_unread_whole]) t hf y, zero_add, ref_apply]
  refine Fin.sum_mul_add_congr fun s k hl => ?_
  blk_point [iblk, V, idx t, idx ⟨_, Pipeline.run_point_lt_of_flush t hf s⟩]

/-- The array after the run is the product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, out_eq_buffer m c t h3]
  exact point m c t h3 y

end Cert.DownValue

end
-- ==== Proof.OutValue.lean ====
/- The value of the product kernel `Out`: the array it returns is the plain product of its two arguments. -/
module

public import proofs.«01_k».proof.Proof.Gen.OutIdeal.Frame
public import proofs.«01_k».proof.Proof.Gen.OutRefIdeal.Run
public import Idealize.ShloMosaic.Lib.Pipeline.ValueKit

@[expose] public section

set_option maxRecDepth 16384

noncomputable section

namespace Cert.OutValue

open Cert.OutIdeal Cert.OutIdeal.Gen
open Idealize.ShloMosaic Idealize.ShloMosaic.TcCoe Idealize.SL.Sem
open Idealize.ShloMosaic.Pipeline (Dat)

variable (m : (ℓ : Loc nD τ sig) → Buf (Elt Ideal) ℓ)

/-- What the reference computes: one product of the two whole arrays. -/
abbrev REF (X : FVec Ideal S8192x2048 .bf16) (W : FVec Ideal S2048x2048 .bf16) : FVec Ideal S8192x2048 .f32 :=
  Host.dotGeneral Cert.OutRefIdeal.dot_S8192x2048_S2048x2048_S8192x2048_1_0_0_1_n_n none
    (extf .f32 X Cert.OutRefIdeal.Gen.bitsLt_bf16_f32) (extf .f32 W Cert.OutRefIdeal.Gen.bitsLt_bf16_f32)

/-- Which blocks grid point `t` works on. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- One entry of the block that point `t` stores is the entry of the product at the block's place in the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The array after the run is the product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutValue

end
-- ==== Proof.ProjAbValue.lean ====
/- The value of the product kernel `ProjAb`: the array it returns is the plain product of its two arguments. -/
module

public import proofs.«01_k».proof.Proof.Gen.ProjAbIdeal.Frame
public import proofs.«01_k».proof.Proof.Gen.ProjAbRefIdeal.Run
public import Idealize.ShloMosaic.Lib.Pipeline.ValueKit

@[expose] public section

set_option maxRecDepth 16384

noncomputable section

namespace Cert.ProjAbValue

open Cert.ProjAbIdeal Cert.ProjAbIdeal.Gen
open Idealize.ShloMosaic Idealize.ShloMosaic.TcCoe Idealize.SL.Sem
open Idealize.ShloMosaic.Pipeline (Dat)

variable (m : (ℓ : Loc nD τ sig) → Buf (Elt Ideal) ℓ)

/-- What the reference computes: one product of the two whole arrays. -/
abbrev REF (X : FVec Ideal S8192x2048 .bf16) (W : FVec Ideal S2048x7680 .bf16) : FVec Ideal S8192x7680 .f32 :=
  Host.dotGeneral Cert.ProjAbRefIdeal.dot_S8192x2048_S2048x7680_S8192x7680_1_0_0_1_n_n none
    (extf .f32 X Cert.ProjAbRefIdeal.Gen.bitsLt_bf16_f32) (extf .f32 W Cert.ProjAbRefIdeal.Gen.bitsLt_bf16_f32)

/-- Which blocks grid point `t` works on. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- One entry of the block that point `t` stores is the entry of the product at the block's place in the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The array after the run is the product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjAbValue

end
-- ==== Proof.ProjCdValue.lean ====
/- The value of the product kernel `ProjCd`: the array it returns is the plain product of its two arguments. -/
module

public import proofs.«01_k».proof.Proof.Gen.ProjCdIdeal.Frame
public import proofs.«01_k».proof.Proof.Gen.ProjCdRefIdeal.Run
public import Idealize.ShloMosaic.Lib.Pipeline.ValueKit

@[expose] public section

set_option maxRecDepth 16384

noncomputable section

namespace Cert.ProjCdValue

open Cert.ProjCdIdeal Cert.ProjCdIdeal.Gen
open Idealize.ShloMosaic Idealize.ShloMosaic.TcCoe Idealize.SL.Sem
open Idealize.ShloMosaic.Pipeline (Dat)

variable (m : (ℓ : Loc nD τ sig) → Buf (Elt Ideal) ℓ)

/-- What the reference computes: one product of the two whole arrays. -/
abbrev REF (X : FVec Ideal S8192x2048 .bf16) (W : FVec Ideal S2048x8320 .bf16) : FVec Ideal S8192x8320 .f32 :=
  Host.dotGeneral Cert.ProjCdRefIdeal.dot_S8192x2048_S2048x8320_S8192x8320_1_0_0_1_n_n none
    (extf .f32 X Cert.ProjCdRefIdeal.Gen.bitsLt_bf16_f32) (extf .f32 W Cert.ProjCdRefIdeal.Gen.bitsLt_bf16_f32)

/-- Which blocks grid point `t` works on. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- One entry of the block that point `t` stores is the entry of the product at the block's place in the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The array after the run is the product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjCdValue

end
-- ==== Proof.LastNormValue.lean ====
/- The value of the last residual and layer norm: every row of sqrt 2 * x + (1 + gate) * ffn, normalised, scaled and
   shifted. -/
module

public import proofs.«01_k».proof.Proof.Gen.LastNormIdeal.Frame
public import proofs.«01_k».proof.Proof.Gen.LastNormRefIdeal.Run
public import Idealize.ShloMosaic.Lib.Pipeline.ValueKit

@[expose] public section

set_option maxRecDepth 16384

noncomputable section

namespace Cert.LastNormValue

open Cert.LastNormIdeal Cert.LastNormIdeal.Gen
open Idealize.ShloMosaic Idealize.ShloMosaic.TcCoe Idealize.SL.Sem
open Idealize.ShloMosaic.Pipeline (Dat)

variable (m : (ℓ : Loc nD τ sig) → Buf (Elt Ideal) ℓ)

/-- The gate: the third part of the fourth row of modulation parameters, one vector per batch element. -/
abbrev GATE (M : FVec Ideal S4x4x6144 .f32) : FVec Ideal Cert.LastNormRefIdeal.S4x1x2048 .f32 :=
  extractStridedSlice Cert.LastNormRefIdeal.S4x1x2048 ![0, 0, 4096] (broadcastInDim Cert.LastNormRefIdeal.S4x1x6144 ![0, 2] Cert.LastNormRefIdeal.Gen.bcast_S4x6144_S4x1x6144_0_2
    (shapeCast Cert.LastNormRefIdeal.S4x6144 (extractStridedSlice Cert.LastNormRefIdeal.S1x4x6144 ![3, 0, 0] M Cert.LastNormRefIdeal.Gen.slices_S4x4x6144_S1x4x6144_3_0_0)
      Cert.LastNormRefIdeal.Gen.shapeCasts_S1x4x6144_S4x6144)) Cert.LastNormRefIdeal.Gen.slices_S4x1x6144_S4x1x2048_0_0_4096

/-- The residual the norm is taken of. -/
abbrev RES (X Y : FVec Ideal S4x2048x2048 .f32) (M : FVec Ideal S4x4x6144 .f32) : FVec Ideal S4x2048x2048 .f32 :=
  addf (mulf (broadcastInDim S4x2048x2048 ![] Cert.LastNormRefIdeal.Gen.bcast_S_S4x2048x2048 (constant Cert.LastNormRefIdeal.S_ .f32 0x3FB504F3#32)) X)
    (mulf (broadcastInDim S4x2048x2048 ![0, 1, 2] Cert.LastNormRefIdeal.Gen.bcast_S4x1x2048_S4x2048x2048_0_1_2
      (addf (broadcastInDim Cert.LastNormRefIdeal.S4x1x2048 ![] Cert.LastNormRefIdeal.Gen.bcast_S_S4x1x2048 (constant Cert.LastNormRefIdeal.S_ .f32 0x3F800000#32)) (GATE M))) Y)

/-- The mean of every row. -/
abbrev MEAN (Z : FVec Ideal S4x2048x2048 .f32) : FVec Ideal Cert.LastNormRefIdeal.S4x2048x1 .f32 :=
  Host.divf (broadcastInDim Cert.LastNormRefIdeal.S4x2048x1 ![0, 1] Cert.LastNormRefIdeal.Gen.bcast_S4x2048_S4x2048x1_0_1
      (Host.reduceAdd Z (constant Cert.LastNormRefIdeal.S_ .f32 0x00000000#32) Cert.LastNormRefIdeal.Gen.reducesTo_S4x2048x2048_S4x2048_d2 Cert.LastNormRefIdeal.Gen.h_S_))
    (broadcastInDim Cert.LastNormRefIdeal.S4x2048x1 ![] Cert.LastNormRefIdeal.Gen.bcast_S_S4x2048x1 (constant Cert.LastNormRefIdeal.S_ .f32 0x45000000#32))

/-- Every row less its mean. -/
abbrev CEN (Z : FVec Ideal S4x2048x2048 .f32) : FVec Ideal S4x2048x2048 .f32 :=
  subf Z (broadcastInDim S4x2048x2048 ![0, 1, 2] Cert.LastNormRefIdeal.Gen.bcast_S4x2048x1_S4x2048x2048_0_1_2 (MEAN Z))

/-- The layer norm of every row. -/
abbrev NORM (Z : FVec Ideal S4x2048x2048 .f32) (G B : FVec Ideal S2048 .f32) : FVec Ideal S4x2048x2048 .f32 :=
  addf (mulf (mulf (CEN Z) (broadcastInDim S4x2048x2048 ![0, 1, 2] Cert.LastNormRefIdeal.Gen.bcast_S4x2048x1_S4x2048x2048_0_1_2
      (Host.rsqrt (addf (MEAN (mulf (CEN Z) (CEN Z)))
        (broadcastInDim Cert.LastNormRefIdeal.S4x2048x1 ![] Cert.LastNormRefIdeal.Gen.bcast_S_S4x2048x1 (constant Cert.LastNormRefIdeal.S_ .f32 0x3727C5AC#32))))))
    (broadcastInDim S4x2048x2048 ![0, 1, 2] Cert.LastNormRefIdeal.Gen.bcast_S1x1x2048_S4x2048x2048_0_1_2
      (broadcastInDim Cert.LastNormRefIdeal.S1x1x2048 ![2] Cert.LastNormRefIdeal.Gen.bcast_S2048_S1x1x2048_2 G)))
    (broadcastInDim S4x2048x2048 ![0, 1, 2] Cert.LastNormRefIdeal.Gen.bcast_S1x1x2048_S4x2048x2048_0_1_2
      (broadcastInDim Cert.LastNormRefIdeal.S1x1x2048 ![2] Cert.LastNormRefIdeal.Gen.bcast_S2048_S1x1x2048_2 B))

/-- Which blocks grid point `t` works on. -/
theorem idx : ∀ t : Fin cfg0.N, win0_0.index t = ![t.val / 8, t.val % 8, 0] ∧ win0_1.index t = ![t.val / 8, t.val % 8, 0]
    ∧ win0_2.index t = ![12 + t.val / 8, 0, 2] ∧ win0_3.index t = ![0, 0] ∧ win0_4.index t = ![0, 0]
    ∧ win0_5.index t = ![t.val / 8, t.val % 8, 0] :=
  (by decide +kernel : ∀ t : Fin grid0.N, _)

/-- One entry of the block that point `t` stores is the reference's entry at the block's place in the array. -/
theorem point (c : Dev nD) (t : Fin cfg0.N) (y) :
    k0_pay1 (k0_pay2 (iblk m c 0 t) (iblk m c 2 t) (iblk m c 1 t) (iblk m c 3 t) (iblk m c 4 t)) y
    = NORM (RES (m ((c : Thread nD τ).loc main_arg0)) (m ((c : Thread nD τ).loc main_arg1)) (m ((c : Thread nD τ).loc main_arg2)))
        (m ((c : Thread nD τ).loc main_arg3)) (m ((c : Thread nD τ).loc main_arg4)) (((cfg0.win 5).blk t).view.emb y) := by
  pointwise [k0_pay1, k0_pay2, NORM, CEN, MEAN, RES, GATE]
  blk_point [iblk, V, idx t]

/-- The array after the run is the reference's. -/
theorem final (c : Dev nD) : (dats m 0 c).arrAt 5 (cfgs 0).N
    = NORM (RES (m ((c : Thread nD τ).loc main_arg0)) (m ((c : Thread nD τ).loc main_arg1)) (m ((c : Thread nD τ).loc main_arg2)))
        (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

end Cert.LastNormValue

end
-- ==== Proof.NextNormValue.lean ====
/- The values of the residual and layer norm between two sub-layers: every row of sqrt 2 * x + (1 + gate) * y, normalised,
   scaled and shifted; and the same with the modulation of the next sub-layer.  -/
module

public import proofs.«01_k».proof.Proof.Gen.NextNormIdeal.Frame
public import proofs.«01_k».proof.Proof.Gen.NextNormRefIdeal.Run
public import Idealize.ShloMosaic.Lib.Pipeline.ValueKit

@[expose] public section

set_option maxRecDepth 16384

noncomputable section

namespace Cert.NextNormValue

open Cert.NextNormIdeal Cert.NextNormIdeal.Gen
open Idealize.ShloMosaic Idealize.ShloMosaic.TcCoe Idealize.SL.Sem
open Idealize.ShloMosaic.Pipeline (Dat)

variable (m : (ℓ : Loc nD τ sig) → Buf (Elt Ideal) ℓ)

/-- The gate: the third part of the first row of modulation parameters, one vector per batch element. -/
abbrev GATE (M : FVec Ideal S4x4x6144 .f32) : FVec Ideal Cert.NextNormRefIdeal.S4x1x2048 .f32 :=
  extractStridedSlice Cert.NextNormRefIdeal.S4x1x2048 ![0, 0, 4096] (broadcastInDim Cert.NextNormRefIdeal.S4x1x6144 ![0, 2] Cert.NextNormRefIdeal.Gen.bcast_S4x6144_S4x1x6144_0_2
    (shapeCast Cert.NextNormRefIdeal.S4x6144 (extractStridedSlice Cert.NextNormRefIdeal.S1x4x6144 ![0, 0, 0] M Cert.NextNormRefIdeal.Gen.slices_S4x4x6144_S1x4x6144_0_0_0)
      Cert.NextNormRefIdeal.Gen.shapeCasts_S1x4x6144_S4x6144)) Cert.NextNormRefIdeal.Gen.slices_S4x1x6144_S4x1x2048_0_0_4096

/-- The residual the norm is taken of. -/
abbrev RES (X Y : FVec Ideal S4x2048x2048 .f32) (M : FVec Ideal S4x4x6144 .f32) : FVec Ideal S4x2048x2048 .f32 :=
  addf (mulf (broadcastInDim S4x2048x2048 ![] Cert.NextNormRefIdeal.Gen.bcast_S_S4x2048x2048 (constant Cert.NextNormRefIdeal.S_ .f32 0x3FB504F3#32)) X)
    (mulf (broadcastInDim S4x2048x2048 ![0, 1, 2] Cert.NextNormRefIdeal.Gen.bcast_S4x1x2048_S4x2048x2048_0_1_2
      (addf (broadcastInDim Cert.NextNormRefIdeal.S4x1x2048 ![] Cert.NextNormRefIdeal.Gen.bcast_S_S4x1x2048 (constant Cert.NextNormRefIdeal.S_ .f32 0x3F800000#32)) (GATE M))) Y)

/-- The mean of every row. -/
abbrev MEAN (Z : FVec Ideal S4x2048x2048 .f32) : FVec Ideal Cert.NextNormRefIdeal.S4x2048x1 .f32 :=
  Host.divf (broadcastInDim Cert.NextNormRefIdeal.S4x2048x1 ![0, 1] Cert.NextNormRefIdeal.Gen.bcast_S4x2048_S4x2048x1_0_1
      (Host.reduceAdd Z (constant Cert.NextNormRefIdeal.S_ .f32 0x00000000#32) Cert.NextNormRefIdeal.Gen.reducesTo_S4x2048x2048_S4x2048_d2 Cert.NextNormRefIdeal.Gen.h_S_))
    (broadcastInDim Cert.NextNormRefIdeal.S4x2048x1 ![] Cert.NextNormRefIdeal.Gen.bcast_S_S4x2048x1 (constant Cert.NextNormRefIdeal.S_ .f32 0x45000000#32))

/-- Every row less its mean. -/
abbrev CEN (Z : FVec Ideal S4x2048x2048 .f32) : FVec Ideal S4x2048x2048 .f32 :=
  subf Z (broadcastInDim S4x2048x2048 ![0, 1, 2] Cert.NextNormRefIdeal.Gen.bcast_S4x2048x1_S4x2048x2048_0_1_2 (MEAN Z))

/-- The layer norm of every row. -/
abbrev NORM (Z : FVec Ideal S4x2048x2048 .f32) (G B : FVec Ideal S2048 .f32) : FVec Ideal S4x2048x2048 .f32 :=
  addf (mulf (mulf (CEN Z) (broadcastInDim S4x2048x2048 ![0, 1, 2] Cert.NextNormRefIdeal.Gen.bcast_S4x2048x1_S4x2048x2048_0_1_2
      (Host.rsqrt (addf (MEAN (mulf (CEN Z) (CEN Z)))
        (broadcastInDim Cert.NextNormRefIdeal.S4x2048x1 ![] Cert.NextNormRefIdeal.Gen.bcast_S_S4x2048x1 (constant Cert.NextNormRefIdeal.S_ .f32 0x3727C5AC#32))))))
    (broadcastInDim S4x2048x2048 ![0, 1, 2] Cert.NextNormRefIdeal.Gen.bcast_S1x1x2048_S4x2048x2048_0_1_2
      (broadcastInDim Cert.NextNormRefIdeal.S1x1x2048 ![2] Cert.NextNormRefIdeal.Gen.bcast_S2048_S1x1x2048_2 G)))
    (broadcastInDim S4x2048x2048 ![0, 1, 2] Cert.NextNormRefIdeal.Gen.bcast_S1x1x2048_S4x2048x2048_0_1_2
      (broadcastInDim Cert.NextNormRefIdeal.S1x1x2048 ![2] Cert.NextNormRefIdeal.Gen.bcast_S2048_S1x1x2048_2 B))

/-- The next sub-layer's shift: the first part of the second row of modulation parameters. -/
abbrev SHIFT (M : FVec Ideal S4x4x6144 .f32) : FVec Ideal Cert.NextNormRefIdeal.S4x1x2048 .f32 :=
  extractStridedSlice Cert.NextNormRefIdeal.S4x1x2048 ![0, 0, 0] (broadcastInDim Cert.NextNormRefIdeal.S4x1x6144 ![0, 2] Cert.NextNormRefIdeal.Gen.bcast_S4x6144_S4x1x6144_0_2
    (shapeCast Cert.NextNormRefIdeal.S4x6144 (extractStridedSlice Cert.NextNormRefIdeal.S1x4x6144 ![1, 0, 0] M Cert.NextNormRefIdeal.Gen.slices_S4x4x6144_S1x4x6144_1_0_0)
      Cert.NextNormRefIdeal.Gen.shapeCasts_S1x4x6144_S4x6144)) Cert.NextNormRefIdeal.Gen.slices_S4x1x6144_S4x1x2048_0_0_0

/-- The next sub-layer's scale: the second part of the same row. -/
abbrev SCALE (M : FVec Ideal S4x4x6144 .f32) : FVec Ideal Cert.NextNormRefIdeal.S4x1x2048 .f32 :=
  extractStridedSlice Cert.NextNormRefIdeal.S4x1x2048 ![0, 0, 2048] (broadcastInDim Cert.NextNormRefIdeal.S4x1x6144 ![0, 2] Cert.NextNormRefIdeal.Gen.bcast_S4x6144_S4x1x6144_0_2
    (shapeCast Cert.NextNormRefIdeal.S4x6144 (extractStridedSlice Cert.NextNormRefIdeal.S1x4x6144 ![1, 0, 0] M Cert.NextNormRefIdeal.Gen.slices_S4x4x6144_S1x4x6144_1_0_0)
      Cert.NextNormRefIdeal.Gen.shapeCasts_S1x4x6144_S4x6144)) Cert.NextNormRefIdeal.Gen.slices_S4x1x6144_S4x1x2048_0_0_2048

/-- One vector per batch element, given to all its positions. -/
abbrev SPREAD (V : FVec Ideal Cert.NextNormRefIdeal.S4x1x2048 .f32) : FVec Ideal S4x2048x2048 .f32 :=
  broadcastInDim S4x2048x2048 ![0, 1, 2] Cert.NextNormRefIdeal.Gen.bcast_S4x1x2048_S4x2048x2048_0_1_2 V

/-- Scaled by one more than the scale and shifted, rounded. -/
abbrev MOD (X : FVec Ideal S4x2048x2048 .f32) (M : FVec Ideal S4x4x6144 .f32) : FVec Ideal S4x2048x2048 .bf16 :=
  truncf .bf16 (addf (mulf X (SPREAD (addf (broadcastInDim Cert.NextNormRefIdeal.S4x1x2048 ![] Cert.NextNormRefIdeal.Gen.bcast_S_S4x1x2048 (constant Cert.NextNormRefIdeal.S_ .f32 0x3F800000#32)) (SCALE M))))
    (SPREAD (SHIFT M))) Cert.NextNormRefIdeal.Gen.bitsLt_bf16_f32

/-- Which blocks grid point `t` works on. -/
theorem idx : ∀ t : Fin cfg0.N, win0_0.index t = ![t.val / 8, t.val % 8, 0]
    ∧ win0_1.index t = ![t.val / 8, t.val % 8, 0]
    ∧ win0_2.index t = ![t.val / 8, 0, 2]
    ∧ win0_3.index t = ![0, 0]
    ∧ win0_4.index t = ![0, 0]
    ∧ win0_5.index t = ![4 + t.val / 8, 0, 0]
    ∧ win0_6.index t = ![4 + t.val / 8, 0, 1]
    ∧ win0_7.index t = ![t.val / 8, t.val % 8, 0]
    ∧ win0_8.index t = ![t.val / 8, t.val % 8, 0] :=
  (by decide +kernel : ∀ t : Fin grid0.N, _)

/-- One entry of the block that point `t` stores to the first array is the reference's entry at the block's place in the array. -/
theorem point_x (c : Dev nD) (t : Fin cfg0.N) (y) :
    k0_pay1 (k0_pay3 (iblk m c 0 t) (iblk m c 2 t) (iblk m c 1 t) (iblk m c 3 t) (iblk m c 4 t)) y
    = NORM (RES (m ((c : Thread nD τ).loc main_arg0)) (m ((c : Thread nD τ).loc main_arg1)) (m ((c : Thread nD τ).loc main_arg2)))
        (m ((c : Thread nD τ).loc main_arg3)) (m ((c : Thread nD τ).loc main_arg4)) (((cfg0.win 7).blk t).view.emb y) := by
  pointwise [k0_pay1, k0_pay3, NORM, CEN, MEAN, RES, GATE]
  blk_point [iblk, V, idx t]

/-- One entry of the block that point `t` stores to the second array is the reference's entry at the block's place in the array. -/
theorem point_h (c : Dev nD) (t : Fin cfg0.N) (y) :
    k0_pay2 (k0_pay3 (iblk m c 0 t) (iblk m c 2 t) (iblk m c 1 t) (iblk m c 3 t) (iblk m c 4 t)) (iblk m c 6 t) (iblk m c 5 t) y
    = MOD (NORM (RES (m ((c : Thread nD τ).loc main_arg0)) (m ((c : Thread nD τ).loc main_arg1)) (m ((c : Thread nD τ).loc main_arg2)))
        (m ((c : Thread nD τ).loc main_arg3)) (m ((c : Thread nD τ).loc main_arg4))) (m ((c : Thread nD τ).loc main_arg2)) (((cfg0.win 8).blk t).view.emb y) := by
  pointwise [k0_pay2, k0_pay3, NORM, CEN, MEAN, RES, GATE, MOD, SPREAD, SCALE, SHIFT]
  blk_point [iblk, V, idx t]

/-- The first array after the run is any array whose blocks are the ones the points store. -/
theorem array_x (c : Dev nD) (G : FVec Ideal S4x2048x2048 .f32) (h : ∀ (t : Fin cfg0.N) (y : S1x256x2048.Idx),
    k0_pay1 (k0_pay3 (iblk m c 0 t) (iblk m c 2 t) (iblk m c 1 t) (iblk m c 3 t) (iblk m c 4 t)) y
      = G (((cfg0.win 7).blk t).view.emb y)) : (dats m 0 c).arrAt 7 (cfgs 0).N = G := by
  refine (dats m 0 c).arrAt_eq_of_covers 7 _ (by decide +kernel) fun t _ y => ?_
  blk_simp
  rw [after0_7]; unfold_out out0_7; frame_out
  exact h t y

/-- The first array after the run is the reference's. -/
theorem final_x (c : Dev nD) : (dats m 0 c).arrAt 7 (cfgs 0).N
    = NORM (RES (m ((c : Thread nD τ).loc main_arg0)) (m ((c : Thread nD τ).loc main_arg1)) (m ((c : Thread nD τ).loc main_arg2))) (m ((c : Thread nD τ).loc main_arg3)) (m ((c : Thread nD τ).loc main_arg4)) :=
  array_x m c _ fun t y => point_x m c t y

/-- The second array after the run is any array whose blocks are the ones the points store. -/
theorem array_h (c : Dev nD) (G : FVec Ideal S4x2048x2048 .bf16) (h : ∀ (t : Fin cfg0.N) (y : S1x256x2048.Idx),
    k0_pay2 (k0_pay3 (iblk m c 0 t) (iblk m c 2 t) (iblk m c 1 t) (iblk m c 3 t) (iblk m c 4 t)) (iblk m c 6 t) (iblk m c 5 t) y
      = G (((cfg0.win 8).blk t).view.emb y)) : (dats m 0 c).arrAt 8 (cfgs 0).N = G := by
  refine (dats m 0 c).arrAt_eq_of_covers 8 _ (by decide +kernel) fun t _ y => ?_
  blk_simp
  rw [after0_8]; unfold_out out0_8; frame_out
  exact h t y

/-- The second array after the run is the reference's. -/
theorem final_h (c : Dev nD) : (dats m 0 c).arrAt 8 (cfgs 0).N
    = MOD (NORM (RES (m ((c : Thread nD τ).loc main_arg0)) (m ((c : Thread nD τ).loc main_arg1)) (m ((c : Thread nD τ).loc main_arg2))) (m ((c : Thread nD τ).loc main_arg3)) (m ((c : Thread nD τ).loc main_arg4))) (m ((c : Thread nD τ).loc main_arg2)) :=
  array_h m c _ fun t y => point_h m c t y

end Cert.NextNormValue

end
-- ==== Proof.ModulateValue.lean ====
/- The value of the first modulation: x * (1 + scale) + shift, entry by entry. -/
module

public import proofs.«01_k».proof.Proof.Gen.ModulateIdeal.Frame
public import proofs.«01_k».proof.Proof.Gen.ModulateRefIdeal.Run
public import Idealize.ShloMosaic.Lib.Pipeline.ValueKit

@[expose] public section

set_option maxRecDepth 16384

noncomputable section

namespace Cert.ModulateValue

open Cert.ModulateIdeal Cert.ModulateIdeal.Gen
open Idealize.ShloMosaic Idealize.ShloMosaic.TcCoe Idealize.SL.Sem
open Idealize.ShloMosaic.Pipeline (Dat)

variable (m : (ℓ : Loc nD τ sig) → Buf (Elt Ideal) ℓ)

/-- The shift: the first part of the first row of modulation parameters, one vector per batch element. -/
abbrev SHIFT (M : FVec Ideal S4x4x6144 .f32) : FVec Ideal Cert.ModulateRefIdeal.S4x1x2048 .f32 :=
  extractStridedSlice Cert.ModulateRefIdeal.S4x1x2048 ![0, 0, 0] (broadcastInDim Cert.ModulateRefIdeal.S4x1x6144 ![0, 2] Cert.ModulateRefIdeal.Gen.bcast_S4x6144_S4x1x6144_0_2
    (shapeCast Cert.ModulateRefIdeal.S4x6144 (extractStridedSlice Cert.ModulateRefIdeal.S1x4x6144 ![0, 0, 0] M Cert.ModulateRefIdeal.Gen.slices_S4x4x6144_S1x4x6144_0_0_0)
      Cert.ModulateRefIdeal.Gen.shapeCasts_S1x4x6144_S4x6144)) Cert.ModulateRefIdeal.Gen.slices_S4x1x6144_S4x1x2048_0_0_0

/-- The scale: the second part of the same row. -/
abbrev SCALE (M : FVec Ideal S4x4x6144 .f32) : FVec Ideal Cert.ModulateRefIdeal.S4x1x2048 .f32 :=
  extractStridedSlice Cert.ModulateRefIdeal.S4x1x2048 ![0, 0, 2048] (broadcastInDim Cert.ModulateRefIdeal.S4x1x6144 ![0, 2] Cert.ModulateRefIdeal.Gen.bcast_S4x6144_S4x1x6144_0_2
    (shapeCast Cert.ModulateRefIdeal.S4x6144 (extractStridedSlice Cert.ModulateRefIdeal.S1x4x6144 ![0, 0, 0] M Cert.ModulateRefIdeal.Gen.slices_S4x4x6144_S1x4x6144_0_0_0)
      Cert.ModulateRefIdeal.Gen.shapeCasts_S1x4x6144_S4x6144)) Cert.ModulateRefIdeal.Gen.slices_S4x1x6144_S4x1x2048_0_0_2048

/-- One vector per batch element, given to all its positions. -/
abbrev SPREAD (V : FVec Ideal Cert.ModulateRefIdeal.S4x1x2048 .f32) : FVec Ideal S4x2048x2048 .f32 :=
  broadcastInDim S4x2048x2048 ![0, 1, 2] Cert.ModulateRefIdeal.Gen.bcast_S4x1x2048_S4x2048x2048_0_1_2 V

/-- Scaled by one more than the scale and shifted, rounded. -/
abbrev MOD (X : FVec Ideal S4x2048x2048 .f32) (M : FVec Ideal S4x4x6144 .f32) : FVec Ideal S4x2048x2048 .bf16 :=
  truncf .bf16 (addf (mulf X (SPREAD (addf (broadcastInDim Cert.ModulateRefIdeal.S4x1x2048 ![] Cert.ModulateRefIdeal.Gen.bcast_S_S4x1x2048 (constant Cert.ModulateRefIdeal.S_ .f32 0x3F800000#32)) (SCALE M))))
    (SPREAD (SHIFT M))) Cert.ModulateRefIdeal.Gen.bitsLt_bf16_f32

/-- Which blocks grid point `t` works on. -/
theorem idx : ∀ t : Fin cfg0.N, win0_0.index t = ![t.val / 4, t.val % 4, 0]
    ∧ win0_1.index t = ![t.val / 4, 0, 0]
    ∧ win0_2.index t = ![t.val / 4, 0, 1]
    ∧ win0_3.index t = ![t.val / 4, t.val % 4, 0] :=
  (by decide +kernel : ∀ t : Fin grid0.N, _)

/-- One entry of the block that point `t` stores is the reference's entry at the block's place in the array. -/
theorem point (c : Dev nD) (t : Fin cfg0.N) (y) :
    k0_pay1 (iblk m c 0 t) (iblk m c 2 t) (iblk m c 1 t) y
    = MOD (m ((c : Thread nD τ).loc main_arg0)) (m ((c : Thread nD τ).loc main_arg1)) (((cfg0.win 3).blk t).view.emb y) := by
  pointwise [k0_pay1, MOD, SPREAD, SCALE, SHIFT]
  blk_point [iblk, V, idx t]

/-- The array after the run is the reference's. -/
theorem final (c : Dev nD) : (dats m 0 c).arrAt 3 (cfgs 0).N
    = MOD (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

end Cert.ModulateValue

end
-- ==== Proof.AdaValue.lean ====
/- The value of the modulation parameters: silu c times the weights of every sub-layer, plus the bias. -/
module

public import proofs.«01_k».proof.Proof.Gen.AdaIdeal.Frame
public import proofs.«01_k».proof.Proof.Gen.AdaRefIdeal.Run
public import Idealize.ShloMosaic.Lib.Pipeline.ValueKit

@[expose] public section

set_option maxRecDepth 16384

noncomputable section

namespace Cert.AdaValue

open Cert.AdaIdeal Cert.AdaIdeal.Gen
open Idealize.ShloMosaic Idealize.ShloMosaic.TcCoe Idealize.SL.Sem
open Idealize.ShloMosaic.Pipeline (Dat)

variable (m : (ℓ : Loc nD τ sig) → Buf (Elt Ideal) ℓ)

/-- The silu of the conditioning. -/
abbrev SILU (C : FVec Ideal S4x2048 .f32) : FVec Ideal S4x2048 .f32 :=
  mulf C (Host.divf (broadcastInDim S4x2048 ![] Cert.AdaRefIdeal.Gen.bcast_S_S4x2048 (constant Cert.AdaRefIdeal.S_ .f32 0x3F800000#32))
    (addf (broadcastInDim S4x2048 ![] Cert.AdaRefIdeal.Gen.bcast_S_S4x2048 (constant Cert.AdaRefIdeal.S_ .f32 0x3F800000#32)) (Host.exp (Host.negf C))))

/-- What the reference computes, for every sub-layer and batch element. -/
abbrev REF (C : FVec Ideal S4x2048 .f32) (W : FVec Ideal S2x2x2048x6144 .f32) (B : FVec Ideal S2x2x6144 .f32) : FVec Ideal S4x4x6144 .f32 :=
  addf (transpose S4x4x6144 [0, 2, 1] (Host.dotGeneral Cert.AdaRefIdeal.dot_S4x2048x6144_S4x2048_S4x6144x4_1_1_02_0_n_n none
      (shapeCast Cert.AdaRefIdeal.S4x2048x6144 W Cert.AdaRefIdeal.Gen.shapeCasts_S2x2x2048x6144_S4x2048x6144) (SILU C)) Cert.AdaRefIdeal.Gen.transposes_S4x6144x4_S4x4x6144_0_2_1)
    (broadcastInDim S4x4x6144 ![0, 1, 2] Cert.AdaRefIdeal.Gen.bcast_S4x1x6144_S4x4x6144_0_1_2 (shapeCast Cert.AdaRefIdeal.S4x1x6144 B Cert.AdaRefIdeal.Gen.shapeCasts_S2x2x6144_S4x1x6144))

/-- Which blocks grid point `t` works on. -/
theorem idx : ∀ t : Fin cfg0.N, win0_0.index t = ![0, 0]
    ∧ win0_1.index t = ![t.val / 4, 0, t.val % 4]
    ∧ win0_2.index t = ![t.val / 4, 0, t.val % 4]
    ∧ win0_3.index t = ![t.val / 4, 0, t.val % 4] :=
  (by decide +kernel : ∀ t : Fin grid0.N, _)

/-- One entry of the block that point `t` stores is the reference's entry at the block's place in the array. -/
theorem point (c : Dev nD) (t : Fin cfg0.N) (y) :
    k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF, SILU, zero_sub]
  blk_point [iblk, V, idx t]

/-- The array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.AdaValue

end
-- ==== Proof.RopeValue.lean ====
/- The values of the tables of the rotary angles: the doubled cosines, and the sines with the first half negated. -/
module

public import proofs.«01_k».proof.Proof.Gen.RopeIdeal.Frame
public import proofs.«01_k».proof.Proof.Gen.RopeRefIdeal.Run
public import Idealize.ShloMosaic.Lib.Pipeline.ValueKit
public import Idealize.ShloMosaic.Lib.StableHlo.RunRead

@[expose] public section

set_option maxRecDepth 16384

noncomputable section

namespace Cert.RopeValue

open Cert.RopeIdeal Cert.RopeIdeal.Gen
open Idealize.ShloMosaic Idealize.ShloMosaic.TcCoe Idealize.SL.Sem
open Idealize.ShloMosaic.Pipeline (Dat)

variable (m : (ℓ : Loc nD τ sig) → Buf (Elt Ideal) ℓ)

/-- The inverse frequencies. -/
abbrev FREQ : FVec Ideal Cert.RopeRefIdeal.S64 .f32 :=
  Host.powf (broadcastInDim Cert.RopeRefIdeal.S64 ![] Cert.RopeRefIdeal.Gen.bcast_S_S64 (constant Cert.RopeRefIdeal.S_ .f32 0x461C4000#32))
    (Host.divf (Host.negf (sitofp .f32 (iotaInDim Cert.RopeRefIdeal.S64 32 0))) (broadcastInDim Cert.RopeRefIdeal.S64 ![] Cert.RopeRefIdeal.Gen.bcast_S_S64 (constant Cert.RopeRefIdeal.S_ .f32 0x42800000#32)))

/-- The angles. -/
abbrev ANG (P : IVec S4x2048 32) : FVec Ideal Cert.RopeRefIdeal.S4x2048x64 .f32 :=
  mulf (broadcastInDim Cert.RopeRefIdeal.S4x2048x64 ![0, 1, 2] Cert.RopeRefIdeal.Gen.bcast_S4x2048x1_S4x2048x64_0_1_2
      (broadcastInDim Cert.RopeRefIdeal.S4x2048x1 ![0, 1] Cert.RopeRefIdeal.Gen.bcast_S4x2048_S4x2048x1_0_1 (sitofp .f32 P)))
    (broadcastInDim Cert.RopeRefIdeal.S4x2048x64 ![0, 1, 2] Cert.RopeRefIdeal.Gen.bcast_S1x1x64_S4x2048x64_0_1_2 (broadcastInDim Cert.RopeRefIdeal.S1x1x64 ![2] Cert.RopeRefIdeal.Gen.bcast_S64_S1x1x64_2 FREQ))

/-- The cosines, twice. -/
abbrev COS (P : IVec S4x2048 32) : FVec Ideal S4x2048x128 .f32 :=
  concatenate S4x2048x128 2 [⟨Cert.RopeRefIdeal.S4x2048x64, Host.cos (ANG P)⟩, ⟨Cert.RopeRefIdeal.S4x2048x64, Host.cos (ANG P)⟩] Cert.RopeRefIdeal.Gen.concatenates_S4x2048x64_S4x2048x64_S4x2048x128_d2

/-- The negated sines, then the sines. -/
abbrev SIN (P : IVec S4x2048 32) : FVec Ideal S4x2048x128 .f32 :=
  concatenate S4x2048x128 2 [⟨Cert.RopeRefIdeal.S4x2048x64, Host.negf (Host.sin (ANG P))⟩, ⟨Cert.RopeRefIdeal.S4x2048x64, Host.sin (ANG P)⟩] Cert.RopeRefIdeal.Gen.concatenates_S4x2048x64_S4x2048x64_S4x2048x128_d2

/-- Which blocks grid point `t` works on. -/
theorem idx : ∀ t : Fin cfg0.N, win0_0.index t = ![t.val / 4, t.val % 4, 0]
    ∧ win0_1.index t = ![0, 0]
    ∧ win0_2.index t = ![t.val / 4, t.val % 4, 0]
    ∧ win0_3.index t = ![t.val / 4, t.val % 4, 0] :=
  (by decide +kernel : ∀ t : Fin grid0.N, _)

/-- Which half of a row a lane lies in, as a word of one bit. -/
theorem half_word {n : ℕ} (hn : n < 128) : IntOp.cmpi .slt (BitVec.ofNat 32 n) 64#32 = if n < 64 then 1#1 else 0#1 := by
  have e : (BitVec.ofNat 32 n).toInt = n := by
    have e : (BitVec.ofNat 32 n).toNat = n := by rw [BitVec.toNat_ofNat]; exact Nat.mod_eq_of_lt (by omega)
    rw [BitVec.toInt_eq_toNat_of_lt (by omega), e]
  have e' : (64#32 : BitVec 32).toInt = 64 := by decide
  simp only [IntOp.cmpi, BitVec.slt, e, e']
  by_cases h : n < 64
  · rw [if_pos h, decide_eq_true (by exact_mod_cast h)]; rfl
  · rw [if_neg h, decide_eq_false (by exact_mod_cast h)]; rfl

/-- The inverse frequency of number `j`. -/
def freq (j : ℕ) : EReal :=
  Ideal.pow (Ideal.ofBits .f32 0x461C4000#32) (Ideal.div (- FloatOps.sitofp (F := Ideal) .f32 (BitVec.ofNat 32 j)) (Ideal.ofBits .f32 0x42800000#32))

/-- The position of number `r` in batch element `b`, and 0 outside. -/
def posAt (P : IVec S4x2048 32) (b r : ℕ) : BitVec 32 :=
  if h : b < 4 ∧ r < 2048 then P (ix2 ⟨b, h.1⟩ ⟨r, h.2⟩) else 0

theorem posAt_eq (P : IVec S4x2048 32) (i : Fin 4) (j : Fin 2048) : P (ix2 i j) = posAt P i.val j.val := by
  unfold posAt
  rw [dif_pos ⟨i.isLt, j.isLt⟩]

/-- One entry of the reference's first table. -/
theorem cos_entry (P : IVec S4x2048 32) (i : S4x2048x128.Idx) : COS P i
    = Ideal.cos (FloatOps.sitofp (F := Ideal) .f32 (posAt P (i 0).val (i 1).val) * freq ((i 2).val % 64)) := by
  have h2 : (i 2).val < 128 := (i 2).isLt
  pointwise [COS, ANG, FREQ]
  by_cases h : (i 2).val < 64
  · rw [dif_pos h, ← posAt_eq P (i 0) (i 1), Nat.mod_eq_of_lt h]
    rfl
  · rw [dif_neg h, ← posAt_eq P (i 0) (i 1), show (i 2).val % 64 = (i 2).val - 64 by omega]
    rfl

/-- One entry of the reference's second table. -/
theorem sin_entry (P : IVec S4x2048 32) (i : S4x2048x128.Idx) : SIN P i
    = if (i 2).val < 64 then - Ideal.sin (FloatOps.sitofp (F := Ideal) .f32 (posAt P (i 0).val (i 1).val) * freq ((i 2).val % 64))
      else Ideal.sin (FloatOps.sitofp (F := Ideal) .f32 (posAt P (i 0).val (i 1).val) * freq ((i 2).val % 64)) := by
  have h2 : (i 2).val < 128 := (i 2).isLt
  pointwise [SIN, ANG, FREQ]
  by_cases h : (i 2).val < 64
  · rw [dif_pos h, if_pos h, ← posAt_eq P (i 0) (i 1), Nat.mod_eq_of_lt h]
    rfl
  · rw [dif_neg h, if_neg h, ← posAt_eq P (i 0) (i 1), show (i 2).val % 64 = (i 2).val - 64 by omega]
    rfl

/-- The positions as the call reads them. -/
theorem pos_read (c : Dev nD) (i : S4x2048x1.Idx) : (V m c main_v8 : IVec S4x2048x1 32) i
    = posAt (m ((c : Thread nD τ).loc main_arg0)) (i 0).val (i 1).val := by
  refine Eq.trans ?_ (posAt_eq _ (i 0) (i 1))
  unfold V
  after_reads_simp
  pointwise

/-- The inverse frequencies as the call reads them: twice. -/
theorem freq_read (c : Dev nD) (i : S1x128.Idx) : (V m c main_v7 : FVec Ideal S1x128 .f32) i = freq ((i 1).val % 64) := by
  have h1 : (i 1).val < 128 := (i 1).isLt
  unfold V
  after_reads_simp
  pointwise
  by_cases h : (i 1).val < 64
  · rw [dif_pos h, Nat.mod_eq_of_lt h]
    after_reads_simp
    pointwise
    rfl
  · rw [dif_neg h, show (i 1).val % 64 = (i 1).val - 64 by omega]
    after_reads_simp
    pointwise
    rfl

/-- The block of positions of point `t`. -/
theorem block0 (c : Dev nD) (t : Fin cfg0.N) (y : S1x512x1.Idx) : (iblk m c 0 t : IVec S1x512x1 32) y
    = posAt (m ((c : Thread nD τ).loc main_arg0)) (t.val / 4) (t.val % 4 * 512 + (y 1).val) := by
  have h0 : (y 0).val < 1 := (y 0).isLt
  have e := (idx t).1
  show (V m c main_v8 : IVec S4x2048x1 32) (((cfg0.win 0).blk t).view.emb y) = _
  rw [pos_read]
  refine congr (congrArg (posAt _) ?_) ?_
  · show win0_0.index t 0 * 1 + 1 * (y 0).val = _
    rw [e]; dsimp; omega
  · show win0_0.index t 1 * 512 + 1 * (y 1).val = _
    rw [e]; dsimp; omega

/-- The block of inverse frequencies of point `t`. -/
theorem block1 (c : Dev nD) (t : Fin cfg0.N) (y : S1x128.Idx) : (iblk m c 1 t : FVec Ideal S1x128 .f32) y
    = freq ((y 1).val % 64) := by
  have e := (idx t).2.1
  show (V m c main_v7 : FVec Ideal S1x128 .f32) (((cfg0.win 1).blk t).view.emb y) = _
  rw [freq_read]
  refine congrArg (fun z => freq (z % 64)) ?_
  show win0_1.index t 1 * 128 + 1 * (y 1).val = _
  rw [e]; dsimp; omega

/-- One entry of the block that point `t` stores to the first array is the reference's entry at the block's place in the array. -/
theorem point_cos (c : Dev nD) (t : Fin cfg0.N) (y : S1x512x128.Idx) :
    k0_pay2 (iblk m c 0 t) (iblk m c 1 t) y
    = COS (m ((c : Thread nD τ).loc main_arg0)) (((cfg0.win 2).blk t).view.emb y) := by
  have h0 : (y 0).val < 1 := (y 0).isLt
  have h2 : (y 2).val < 128 := (y 2).isLt
  have e := (idx t).2.2.1
  have e0 : (((cfg0.win 2).blk t).view.emb y 0).val = t.val / 4 := by
    show win0_2.index t 0 * 1 + 1 * (y 0).val = _
    rw [e]; dsimp; omega
  have e1 : (((cfg0.win 2).blk t).view.emb y 1).val = t.val % 4 * 512 + (y 1).val := by
    show win0_2.index t 1 * 512 + 1 * (y 1).val = _
    rw [e]; dsimp; omega
  have e2 : (((cfg0.win 2).blk t).view.emb y 2).val = (y 2).val := by
    show win0_2.index t 2 * 128 + 1 * (y 2).val = _
    rw [e]; dsimp; omega
  refine Eq.trans ?_ (cos_entry _ _).symm
  rw [e0, e1, e2]
  pointwise [k0_pay1, k0_pay2, zero_sub]
  rw [block0, block1]
  rfl

/-- One entry of the block that point `t` stores to the second array is the reference's entry at the block's place in the array. -/
theorem point_sin (c : Dev nD) (t : Fin cfg0.N) (y : S1x512x128.Idx) :
    k0_pay3 (iblk m c 0 t) (iblk m c 1 t) y
    = SIN (m ((c : Thread nD τ).loc main_arg0)) (((cfg0.win 3).blk t).view.emb y) := by
  have h0 : (y 0).val < 1 := (y 0).isLt
  have h2 : (y 2).val < 128 := (y 2).isLt
  have e := (idx t).2.2.2
  have e0 : (((cfg0.win 3).blk t).view.emb y 0).val = t.val / 4 := by
    show win0_3.index t 0 * 1 + 1 * (y 0).val = _
    rw [e]; dsimp; omega
  have e1 : (((cfg0.win 3).blk t).view.emb y 1).val = t.val % 4 * 512 + (y 1).val := by
    show win0_3.index t 1 * 512 + 1 * (y 1).val = _
    rw [e]; dsimp; omega
  have e2 : (((cfg0.win 3).blk t).view.emb y 2).val = (y 2).val := by
    show win0_3.index t 2 * 128 + 1 * (y 2).val = _
    rw [e]; dsimp; omega
  refine Eq.trans ?_ (sin_entry _ _).symm
  rw [e0, e1, e2]
  pointwise [k0_pay1, k0_pay3, zero_sub]
  rw [block0, block1]
  by_cases h : (y 2).val < 64
  · rw [half_word h2, if_pos h, if_pos h]
    rfl
  · rw [half_word h2, if_neg h, if_neg h]
    rfl

/-- The array after the run, the first, is the reference's. -/
theorem final_cos (c : Dev nD) : (dats m 0 c).arrAt 2 (cfgs 0).N
    = COS (m ((c : Thread nD τ).loc main_arg0)) := by
  refine (dats m 0 c).arrAt_eq_of_covers 2 _ (by decide +kernel) fun t _ y => ?_
  blk_simp
  rw [after0_2]; frame_out
  exact point_cos m c t y

/-- The array after the run, the second, is the reference's. -/
theorem final_sin (c : Dev nD) : (dats m 0 c).arrAt 3 (cfgs 0).N
    = SIN (m ((c : Thread nD τ).loc main_arg0)) := by
  refine (dats m 0 c).arrAt_eq_of_covers 3 _ (by decide +kernel) fun t _ y => ?_
  blk_simp
  rw [after0_3]; frame_out
  exact point_sin m c t y

end Cert.RopeValue

end
-- ==== Proof.lean ====
/- The proof of the claims: every program comes to an end with its arguments unchanged and no counter left raised, on
   the words of the machine and on the extended reals; the programs on the extended reals are the ones on the words,
   rewritten as stated; and on the extended reals each kernel's result is its reference's, whatever the arguments. -/
module

public import proofs.«01_k».proof.Defs
public import proofs.«01_k».proof.Proof.Gen.Ret
public import proofs.«01_k».proof.Proof.Gen.Ret.Skeleton
public import proofs.«01_k».proof.Proof.Gen.Ret.Loops
public import proofs.«01_k».proof.Proof.Gen.Ret.Launch
public import proofs.«01_k».proof.Proof.Gen.Ret.Points
public import proofs.«01_k».proof.Proof.Gen.Ret.Frame.Runs
public import proofs.«01_k».proof.Proof.Gen.RetIdeal
public import proofs.«01_k».proof.Proof.Gen.RetIdeal.Skeleton
public import proofs.«01_k».proof.Proof.Gen.RetIdeal.Loops
public import proofs.«01_k».proof.Proof.Gen.RetIdeal.Launch
public import proofs.«01_k».proof.Proof.Gen.RetIdeal.Points
public import proofs.«01_k».proof.Proof.Gen.RetIdeal.Frame.Runs
public import proofs.«01_k».proof.Proof.Gen.RetRefIdeal
public import proofs.«01_k».proof.Proof.Gen.RetRefIdeal.Run
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpRefIdeal
public import proofs.«01_k».proof.Proof.Gen.UpRefIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownRefIdeal
public import proofs.«01_k».proof.Proof.Gen.DownRefIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.OutRefIdeal.Run
public import proofs.«01_k».proof.Proof.Gen.ProjAb
public import proofs.«01_k».proof.Proof.Gen.ProjAb.Frame
public import proofs.«01_k».proof.Proof.Gen.ProjAbIdeal
public import proofs.«01_k».proof.Proof.Gen.ProjAbIdeal.Frame
public import proofs.«01_k».proof.Proof.Gen.ProjAbRefIdeal
public import proofs.«01_k».proof.Proof.Gen.ProjAbRefIdeal.Run
public import proofs.«01_k».proof.Proof.Gen.ProjCd
public import proofs.«01_k».proof.Proof.Gen.ProjCd.Frame
public import proofs.«01_k».proof.Proof.Gen.ProjCdIdeal
public import proofs.«01_k».proof.Proof.Gen.ProjCdIdeal.Frame
public import proofs.«01_k».proof.Proof.Gen.ProjCdRefIdeal
public import proofs.«01_k».proof.Proof.Gen.ProjCdRefIdeal.Run
public import proofs.«01_k».proof.Proof.Gen.LastNorm
public import proofs.«01_k».proof.Proof.Gen.LastNorm.Frame
public import proofs.«01_k».proof.Proof.Gen.LastNormIdeal
public import proofs.«01_k».proof.Proof.Gen.LastNormIdeal.Frame
public import proofs.«01_k».proof.Proof.Gen.LastNormRefIdeal
public import proofs.«01_k».proof.Proof.Gen.LastNormRefIdeal.Run
public import proofs.«01_k».proof.Proof.Gen.NextNorm
public import proofs.«01_k».proof.Proof.Gen.NextNorm.Frame
public import proofs.«01_k».proof.Proof.Gen.NextNormIdeal
public import proofs.«01_k».proof.Proof.Gen.NextNormIdeal.Frame
public import proofs.«01_k».proof.Proof.Gen.NextNormRefIdeal
public import proofs.«01_k».proof.Proof.Gen.NextNormRefIdeal.Run
public import proofs.«01_k».proof.Proof.Gen.Modulate
public import proofs.«01_k».proof.Proof.Gen.Modulate.Frame
public import proofs.«01_k».proof.Proof.Gen.ModulateIdeal
public import proofs.«01_k».proof.Proof.Gen.ModulateIdeal.Frame
public import proofs.«01_k».proof.Proof.Gen.ModulateRefIdeal
public import proofs.«01_k».proof.Proof.Gen.ModulateRefIdeal.Run
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaRefIdeal
public import proofs.«01_k».proof.Proof.Gen.AdaRefIdeal.Run
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.RopeRefIdeal
public import proofs.«01_k».proof.Proof.Gen.RopeRefIdeal.Run
public import proofs.«01_k».proof.Proof.RetFrame
public import proofs.«01_k».proof.Proof.RetIdealValue
public import proofs.«01_k».proof.Proof.RetRefRun
public import proofs.«01_k».proof.Proof.UpValue
public import proofs.«01_k».proof.Proof.DownValue
public import proofs.«01_k».proof.Proof.OutValue
public import proofs.«01_k».proof.Proof.ProjAbValue
public import proofs.«01_k».proof.Proof.ProjCdValue
public import proofs.«01_k».proof.Proof.LastNormValue
public import proofs.«01_k».proof.Proof.NextNormValue
public import proofs.«01_k».proof.Proof.ModulateValue
public import proofs.«01_k».proof.Proof.AdaValue
public import proofs.«01_k».proof.Proof.RopeValue
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The retention on the extended reals is the retention on the words, its logarithms of the heads' decays and the decays
over a chunk named. -/
theorem preserves_Ret : Cert.preserves_Ret_RetIdeal :=
  ⟨IdealRules.named_const.statement Cert.RetIdeal.κ "lg0" .f32 0xBD020AEC#32 _ rfl,
    IdealRules.named_const.statement Cert.RetIdeal.κ "cd0" .f32 0x3E063AE5#32 _ rfl,
    IdealRules.named_const.statement Cert.RetIdeal.κ "lg1" .f32 0xBC8102B3#32 _ rfl,
    IdealRules.named_const.statement Cert.RetIdeal.κ "cd1" .f32 0x3EBADF84#32 _ rfl,
    IdealRules.named_const.statement Cert.RetIdeal.κ "lg2" .f32 0xBC0080AC#32 _ rfl,
    IdealRules.named_const.statement Cert.RetIdeal.κ "cd2" .f32 0x3F1AF7A1#32 _ rfl,
    IdealRules.named_const.statement Cert.RetIdeal.κ "lg3" .f32 0xBB80402B#32 _ rfl,
    IdealRules.named_const.statement Cert.RetIdeal.κ "cd3" .f32 0x3F474682#32 _ rfl,
    IdealRules.named_const.statement Cert.RetIdeal.κ "lg4" .f32 0xBB00200B#32 _ rfl,
    IdealRules.named_const.statement Cert.RetIdeal.κ "cd4" .f32 0x3F61E440#32 _ rfl,
    IdealRules.named_const.statement Cert.RetIdeal.κ "lg5" .f32 0xBA801003#32 _ rfl,
    IdealRules.named_const.statement Cert.RetIdeal.κ "cd5" .f32 0x3F707B7F#32 _ rfl,
    IdealRules.named_const.statement Cert.RetIdeal.κ "lg6" .f32 0xBA000801#32 _ rfl,
    IdealRules.named_const.statement Cert.RetIdeal.κ "cd6" .f32 0x3F781F2F#32 _ rfl,
    IdealRules.named_const.statement Cert.RetIdeal.κ "lg7" .f32 0xB9800400#32 _ rfl,
    IdealRules.named_const.statement Cert.RetIdeal.κ "cd7" .f32 0x3F7C07D6#32 _ rfl⟩

/-- The reference of the retention comes to an end with its arguments unchanged. -/
theorem quiet_RetRef : Cert.quiescent_RetRefIdeal := fun m ρ _ =>
  (θ_run _ _ _).mono (fun r h => ⟨fun c => (h c).2, sem_eq_zero_of_no_sems (by decide) r.2⟩) (Cert.RetRefValue.run m ρ)

/-- On the extended reals the retention returns the reference's array. -/
theorem algebraic_Ret : Cert.algebraic_RetIdeal_RetRefIdeal := by
  pair_intro
  · run_from Cert.RetIdeal.Gen.run_main m g
  · run_from Cert.RetRefValue.run m' g'
    exact (Cert.RetIdeal.Gen.final m c).symm

/-- The reference of the gated up-projection comes to an end with its arguments unchanged. -/
theorem quiet_UpRef : Cert.quiescent_UpRefIdeal := fun m ρ _ =>
  (θ_run _ _ _).mono (fun r h => ⟨fun c => (h c).2, sem_eq_zero_of_no_sems (by decide) r.2⟩) (Cert.UpRefIdeal.Value.run m ρ)

/-- On the extended reals the gated up-projection returns the reference's array. -/
theorem algebraic_Up : Cert.algebraic_UpIdeal_UpRefIdeal := by
  pair_intro
  · run_from Cert.UpIdeal.Gen.run_main m g
  · run_from Cert.UpRefIdeal.Value.run m' g'
    exact (Cert.UpValue.final m c).symm

/-- The reference of the down-projection comes to an end with its arguments unchanged. -/
theorem quiet_DownRef : Cert.quiescent_DownRefIdeal := fun m ρ _ =>
  (θ_run _ _ _).mono (fun r h => ⟨fun c => (h c).2, sem_eq_zero_of_no_sems (by decide) r.2⟩) (Cert.DownRefIdeal.Value.run m ρ)

/-- On the extended reals the down-projection returns the reference's array. -/
theorem algebraic_Down : Cert.algebraic_DownIdeal_DownRefIdeal := by
  pair_intro
  · run_from Cert.DownIdeal.Gen.run_main m g
  · run_from Cert.DownRefIdeal.Value.run m' g'
    exact (Cert.DownValue.final m c).symm

/-- The reference of the output projection comes to an end with its arguments unchanged. -/
theorem quiet_OutRef : Cert.quiescent_OutRefIdeal := fun m ρ _ =>
  (θ_run _ _ _).mono (fun r h => ⟨fun c => (h c).2, sem_eq_zero_of_no_sems (by decide) r.2⟩) (Cert.OutRefIdeal.Value.run m ρ)

/-- On the extended reals the output projection returns the reference's array. -/
theorem algebraic_Out : Cert.algebraic_OutIdeal_OutRefIdeal := by
  pair_intro
  · run_from Cert.OutIdeal.Gen.run_main m g
  · run_from Cert.OutRefIdeal.Value.run m' g'
    exact (Cert.OutValue.final m c).symm

/-- The reference of the input projection of the first layer comes to an end with its arguments unchanged. -/
theorem quiet_ProjAbRef : Cert.quiescent_ProjAbRefIdeal := fun m ρ _ =>
  (θ_run _ _ _).mono (fun r h => ⟨fun c => (h c).2, sem_eq_zero_of_no_sems (by decide) r.2⟩) (Cert.ProjAbRefIdeal.Value.run m ρ)

/-- On the extended reals the input projection of the first layer returns the reference's array. -/
theorem algebraic_ProjAb : Cert.algebraic_ProjAbIdeal_ProjAbRefIdeal := by
  pair_intro
  · run_from Cert.ProjAbIdeal.Gen.run_main m g
  · run_from Cert.ProjAbRefIdeal.Value.run m' g'
    exact (Cert.ProjAbValue.final m c).symm

/-- The reference of the input projection of the second layer comes to an end with its arguments unchanged. -/
theorem quiet_ProjCdRef : Cert.quiescent_ProjCdRefIdeal := fun m ρ _ =>
  (θ_run _ _ _).mono (fun r h => ⟨fun c => (h c).2, sem_eq_zero_of_no_sems (by decide) r.2⟩) (Cert.ProjCdRefIdeal.Value.run m ρ)

/-- On the extended reals the input projection of the second layer returns the reference's array. -/
theorem algebraic_ProjCd : Cert.algebraic_ProjCdIdeal_ProjCdRefIdeal := by
  pair_intro
  · run_from Cert.ProjCdIdeal.Gen.run_main m g
  · run_from Cert.ProjCdRefIdeal.Value.run m' g'
    exact (Cert.ProjCdValue.final m c).symm

/-- The reference of the last residual and layer norm comes to an end with its arguments unchanged. -/
theorem quiet_LastNormRef : Cert.quiescent_LastNormRefIdeal := fun m ρ _ =>
  (θ_run _ _ _).mono (fun r h => ⟨fun c => (h c).2, sem_eq_zero_of_no_sems (by decide) r.2⟩) (Cert.LastNormRefIdeal.Value.run m ρ)

/-- On the extended reals the last residual and layer norm returns the reference's array. -/
theorem algebraic_LastNorm : Cert.algebraic_LastNormIdeal_LastNormRefIdeal := by
  pair_intro
  · run_from Cert.LastNormIdeal.Gen.run_main m g
  · hlo_run
    exact (Cert.LastNormValue.final m c).symm

/-- The reference of the residual and layer norm between sub-layers comes to an end with its arguments unchanged. -/
theorem quiet_NextNormRef : Cert.quiescent_NextNormRefIdeal := fun m ρ _ =>
  (θ_run _ _ _).mono (fun r h => ⟨fun c => (h c).2.2, sem_eq_zero_of_no_sems (by decide) r.2⟩) (Cert.NextNormRefIdeal.Value.run m ρ)

/-- On the extended reals the residual and layer norm between sub-layers return the reference's two arrays. -/
theorem algebraic_NextNorm : Cert.algebraic_NextNormIdeal_NextNormRefIdeal := by
  pair_intro
  · run_from Cert.NextNormIdeal.Gen.run_main m g
  · run_from Cert.NextNormRefIdeal.Value.run m' g'
    · obtain ⟨h0, h1, h2, h3, h4⟩ := hagree c
      unfold Cert.NextNormRefIdeal.Value.res_main_v36
      rw [h0, h1, h2, h3, h4]
      exact (Cert.NextNormValue.final_x m c).symm
    · obtain ⟨h0, h1, h2, h3, h4⟩ := hagree c
      unfold Cert.NextNormRefIdeal.Value.res_main_v49
      rw [h0, h1, h2, h3, h4]
      exact (Cert.NextNormValue.final_h m c).symm

/-- The reference of the first modulation comes to an end with its arguments unchanged. -/
theorem quiet_ModulateRef : Cert.quiescent_ModulateRefIdeal := fun m ρ _ =>
  (θ_run _ _ _).mono (fun r h => ⟨fun c => (h c).2, sem_eq_zero_of_no_sems (by decide) r.2⟩) (Cert.ModulateRefIdeal.Value.run m ρ)

/-- On the extended reals the first modulation returns the reference's array. -/
theorem algebraic_Modulate : Cert.algebraic_ModulateIdeal_ModulateRefIdeal := by
  pair_intro
  · run_from Cert.ModulateIdeal.Gen.run_main m g
  · run_from Cert.ModulateRefIdeal.Value.run m' g'
    exact (Cert.ModulateValue.final m c).symm

/-- The reference of the modulation parameters comes to an end with its arguments unchanged. -/
theorem quiet_AdaRef : Cert.quiescent_AdaRefIdeal := fun m ρ _ =>
  (θ_run _ _ _).mono (fun r h => ⟨fun c => (h c).2, sem_eq_zero_of_no_sems (by decide) r.2⟩) (Cert.AdaRefIdeal.Value.run m ρ)

/-- On the extended reals the call of the modulation parameters returns the reference's array. -/
theorem algebraic_Ada : Cert.algebraic_AdaIdeal_AdaRefIdeal := by
  pair_intro
  · run_from Cert.AdaIdeal.Gen.run_main m g
  · run_from Cert.AdaRefIdeal.Value.run m' g'
    exact (Cert.AdaValue.final m c).symm

/-- The reference of the tables of the rotary angles comes to an end with its arguments unchanged. -/
theorem quiet_RopeRef : Cert.quiescent_RopeRefIdeal := fun m ρ _ =>
  (θ_run _ _ _).mono (fun r h => ⟨fun c => (h c).2.2, sem_eq_zero_of_no_sems (by decide) r.2⟩) (Cert.RopeRefIdeal.Value.run m ρ)

/-- On the extended reals the call of the rotary angles returns the reference's two tables. -/
theorem algebraic_Rope : Cert.algebraic_RopeIdeal_RopeRefIdeal := by
  pair_intro
  · run_from Cert.RopeIdeal.Gen.run_main m g
  · run_from Cert.RopeRefIdeal.Value.run m' g'
    · exact (congrArg Cert.RopeValue.COS (hagree c)).trans (Cert.RopeValue.final_cos m c).symm
    · exact (congrArg Cert.RopeValue.SIN (hagree c)).trans (Cert.RopeValue.final_sin m c).symm

/-- All the claims. -/
theorem claim : Cert.Claim := ⟨Cert.Ret.Gen.facts, Cert.RetIdeal.Gen.facts, Cert.RetRefIdeal.Gen.facts, Cert.Up.Gen.facts, Cert.UpIdeal.Gen.facts, Cert.UpRefIdeal.Gen.facts, Cert.Down.Gen.facts, Cert.DownIdeal.Gen.facts, Cert.DownRefIdeal.Gen.facts, Cert.Out.Gen.facts, Cert.OutIdeal.Gen.facts, Cert.OutRefIdeal.Gen.facts, Cert.ProjAb.Gen.facts, Cert.ProjAbIdeal.Gen.facts, Cert.ProjAbRefIdeal.Gen.facts, Cert.ProjCd.Gen.facts, Cert.ProjCdIdeal.Gen.facts, Cert.ProjCdRefIdeal.Gen.facts, Cert.LastNorm.Gen.facts, Cert.LastNormIdeal.Gen.facts, Cert.LastNormRefIdeal.Gen.facts, Cert.NextNorm.Gen.facts, Cert.NextNormIdeal.Gen.facts, Cert.NextNormRefIdeal.Gen.facts, Cert.Modulate.Gen.facts, Cert.ModulateIdeal.Gen.facts, Cert.ModulateRefIdeal.Gen.facts, Cert.Ada.Gen.facts, Cert.AdaIdeal.Gen.facts, Cert.AdaRefIdeal.Gen.facts, Cert.Rope.Gen.facts, Cert.RopeIdeal.Gen.facts, Cert.RopeRefIdeal.Gen.facts,
  fun m ρ _ => Cert.Ret.Gen.frame m ρ, fun m ρ _ => Cert.RetIdeal.Gen.frame m ρ, quiet_RetRef,
  fun m ρ _ => Cert.Up.Gen.frame m ρ, fun m ρ _ => Cert.UpIdeal.Gen.frame m ρ, quiet_UpRef,
  fun m ρ _ => Cert.Down.Gen.frame m ρ, fun m ρ _ => Cert.DownIdeal.Gen.frame m ρ, quiet_DownRef,
  fun m ρ _ => Cert.Out.Gen.frame m ρ, fun m ρ _ => Cert.OutIdeal.Gen.frame m ρ, quiet_OutRef,
  fun m ρ _ => Cert.ProjAb.Gen.frame m ρ, fun m ρ _ => Cert.ProjAbIdeal.Gen.frame m ρ, quiet_ProjAbRef,
  fun m ρ _ => Cert.ProjCd.Gen.frame m ρ, fun m ρ _ => Cert.ProjCdIdeal.Gen.frame m ρ, quiet_ProjCdRef,
  fun m ρ _ => Cert.LastNorm.Gen.frame m ρ, fun m ρ _ => Cert.LastNormIdeal.Gen.frame m ρ, quiet_LastNormRef,
  fun m ρ _ => Cert.NextNorm.Gen.frame m ρ, fun m ρ _ => Cert.NextNormIdeal.Gen.frame m ρ, quiet_NextNormRef,
  fun m ρ _ => Cert.Modulate.Gen.frame m ρ, fun m ρ _ => Cert.ModulateIdeal.Gen.frame m ρ, quiet_ModulateRef,
  fun m ρ _ => Cert.Ada.Gen.frame m ρ, fun m ρ _ => Cert.AdaIdeal.Gen.frame m ρ, quiet_AdaRef,
  fun m ρ _ => Cert.Rope.Gen.frame m ρ, fun m ρ _ => Cert.RopeIdeal.Gen.frame m ρ, quiet_RopeRef,
  preserves_Ret, algebraic_Ret, trivial, algebraic_Up, trivial, algebraic_Down, trivial, algebraic_Out, trivial, algebraic_ProjAb, trivial, algebraic_ProjCd, trivial, algebraic_LastNorm,
  trivial, algebraic_NextNorm, trivial, algebraic_Modulate, trivial, algebraic_Ada, trivial, algebraic_Rope⟩

end Cert.Proof

end
